-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_are_means [hPre_rows_are_means : Cert.Pre_rows_are_means.Facts] (m : (ℓ : Loc Cert.KernelIdeal.nD Cert.KernelIdeal.τ Cert.KernelIdeal.sig) → Buf (Elt Ideal) ℓ) : Prop :=
  ∀ c : Dev Cert.KernelIdeal.nD,
    (Cert.Pre_rows_are_means.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_rows_are_means.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_rows_are_means.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_rows_are_means.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_rows_are_means.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_are_means [hPre_rows_are_means : Cert.Pre_rows_are_means.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_are_means.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_rows_are_means.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_rows_are_means.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_rows_are_means.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_rows_are_means.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_are_means [hKernelIdeal : Cert.KernelIdeal.Facts] [hPre_rows_are_means : Cert.Pre_rows_are_means.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_are_means m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_are_means [hReferenceIdeal : Cert.ReferenceIdeal.Facts] [hPre_rows_are_means : Cert.Pre_rows_are_means.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_are_means m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_rows_are_means [hKernelIdeal : Cert.KernelIdeal.Facts] [hReferenceIdeal : Cert.ReferenceIdeal.Facts] [hPre_rows_are_means : Cert.Pre_rows_are_means.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_are_means m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_v246) = v2 c
          ∧ r.2.mem ((c.tc : Thread Cert.ReferenceIdeal.nD Cert.ReferenceIdeal.τ).loc Cert.ReferenceIdeal.main_v250) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_on_all_but_recs [hKernelIdeal : Cert.KernelIdeal.Facts] [hReferenceIdeal : Cert.ReferenceIdeal.Facts] [hOn_all_but_recs : Cert.On_all_but_recs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10000, 24]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v0_0) i = v0 c i)
          ∧ (∀ i : (⟨3, ![10000, 3, 128]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v0_1) i = v1 c i)
          ∧ (∀ i : (⟨3, ![10000, 3, 2]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v0_2) i = v2 c i)
          ∧ (∀ i : (⟨3, ![10000, 3, 2]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10000, 24]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v238) i = v0 c i)
          ∧ (∀ i : (⟨3, ![10000, 3, 128]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v242) i = v1 c i)
          ∧ (∀ i : (⟨3, ![10000, 3, 2]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v246) i = v2 c i)
          ∧ (∀ i : (⟨3, ![10000, 3, 2]⟩ : Shape).Idx, (Cert.On_all_but_recs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.ReferenceIdeal.nD Cert.ReferenceIdeal.τ).loc Cert.ReferenceIdeal.main_v250) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_are_means : Cert.Pre_rows_are_means.Facts) (hOn_all_but_recs : Cert.On_all_but_recs.Facts),
    quiescent_Kernel (hKernel := hKernel)
    ∧ quiescent_KernelIdeal (hKernelIdeal := hKernelIdeal)
    ∧ quiescent_KernelIdeal_pre_rows_are_means (hKernelIdeal := hKernelIdeal) (hPre_rows_are_means := hPre_rows_are_means)
    ∧ quiescent_ReferenceIdeal (hReferenceIdeal := hReferenceIdeal)
    ∧ quiescent_ReferenceIdeal_pre_rows_are_means (hReferenceIdeal := hReferenceIdeal) (hPre_rows_are_means := hPre_rows_are_means)
    ∧ preserves_Kernel_KernelIdeal
    ∧ algebraic_KernelIdeal_ReferenceIdeal_pre_rows_are_means (hKernelIdeal := hKernelIdeal) (hReferenceIdeal := hReferenceIdeal) (hPre_rows_are_means := hPre_rows_are_means)
    ∧ algebraic_KernelIdeal_ReferenceIdeal_on_all_but_recs (hKernelIdeal := hKernelIdeal) (hReferenceIdeal := hReferenceIdeal) (hOn_all_but_recs := hOn_all_but_recs)
-- ==== On_all_but_recs.lean ====
abbrev S10000x3x128 : Shape := ⟨3, ![10000, 3, 128]⟩
abbrev S10000x10000 : Shape := ⟨2, ![10000, 10000]⟩
abbrev S128x3x8 : Shape := ⟨3, ![128, 3, 8]⟩
abbrev S8x3x128 : Shape := ⟨3, ![8, 3, 128]⟩
abbrev S1x8x8 : Shape := ⟨3, ![1, 8, 8]⟩
abbrev S1 : Shape := ⟨1, ![1]⟩
abbrev S_ : Shape := ⟨0, ![]⟩
abbrev S10000x24 : Shape := ⟨2, ![10000, 24]⟩
abbrev S10000x3x2 : Shape := ⟨3, ![10000, 3, 2]⟩

class Facts : Prop where
  bcast_S_S10000x24 : S_.BroadcastsInDim S10000x24 (![] : Fin 0 → Fin S10000x24.rank)
  bcast_S_S10000x3x128 : S_.BroadcastsInDim S10000x3x128 (![] : Fin 0 → Fin S10000x3x128.rank)
  bcast_S_S10000x3x2 : S_.BroadcastsInDim S10000x3x2 (![] : Fin 0 → Fin S10000x3x2.rank)

variable [Facts]

def fn {F : FTy → Type} [FloatOps F] (main_arg0 : FVec F S10000x3x128 .f32) (main_arg1 : FVec F S10000x3x128 .f32) (main_arg2 : FVec F S10000x10000 .f32) (main_arg3 : FVec F S10000x10000 .f32) (main_arg4 : FVec F S128x3x8 .f32) (main_arg5 : FVec F S8x3x128 .f32) (main_arg6 : FVec F S1x8x8 .f32) (main_arg7 : FVec F S1 .f32) : IVec S10000x24 1 × IVec S10000x3x128 1 × IVec S10000x3x2 1 × IVec S10000x3x2 1 :=
  let main_c : IVec S_ 1 := constantI S_ 1 1#1
  let main_v0 : IVec S10000x24 1 := broadcastInDim S10000x24 ![] bcast_S_S10000x24 main_c
  let main_c_0 : IVec S_ 1 := constantI S_ 1 0#1
  let main_v1 : IVec S10000x3x128 1 := broadcastInDim S10000x3x128 ![] bcast_S_S10000x3x128 main_c_0
  let main_c_1 : IVec S_ 1 := constantI S_ 1 1#1
  let main_v2 : IVec S10000x3x2 1 := broadcastInDim S10000x3x2 ![] bcast_S_S10000x3x2 main_c_1
  let main_c_2 : IVec S_ 1 := constantI S_ 1 1#1
  let main_v3 : IVec S10000x3x2 1 := broadcastInDim S10000x3x2 ![] bcast_S_S10000x3x2 main_c_2
  (main_v0, main_v1, main_v2, main_v3)
-- ==== Pre_rows_are_means.lean ====
abbrev S10000x3x128 : Shape := ⟨3, ![10000, 3, 128]⟩
abbrev S10000x10000 : Shape := ⟨2, ![10000, 10000]⟩
abbrev S128x3x8 : Shape := ⟨3, ![128, 3, 8]⟩
abbrev S8x3x128 : Shape := ⟨3, ![8, 3, 128]⟩
abbrev S1x8x8 : Shape := ⟨3, ![1, 8, 8]⟩
abbrev S1 : Shape := ⟨1, ![1]⟩
abbrev S_ : Shape := ⟨0, ![]⟩
abbrev S10000 : Shape := ⟨1, ![10000]⟩

class Facts : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x10000_0 : S10000.BroadcastsInDim S10000x10000 (![0] : Fin 1 → Fin S10000x10000.rank)
  bcast_S_S10000x3x128 : S_.BroadcastsInDim S10000x3x128 (![] : Fin 0 → Fin S10000x3x128.rank)
  bcast_S_S128x3x8 : S_.BroadcastsInDim S128x3x8 (![] : Fin 0 → Fin S128x3x8.rank)
  bcast_S_S8x3x128 : S_.BroadcastsInDim S8x3x128 (![] : Fin 0 → Fin S8x3x128.rank)

variable [Facts]

def fn_part1 {F : FTy → Type} [FloatOps F] (main_arg5 : FVec F S8x3x128 .f32) (main_v8 : IVec S10000x10000 1) (main_v11 : IVec S10000x10000 1) (main_v14 : IVec S10000x3x128 1) (main_v15 : FVec F S128x3x8 .f32) (main_v16 : FVec F S128x3x8 .f32) : IVec S10000x10000 1 × IVec S10000x10000 1 × IVec S10000x3x128 1 × IVec S128x3x8 1 × IVec S8x3x128 1 :=
  let main_v17 : IVec S128x3x8 1 := cmpf .olt main_v15 main_v16
  let main_v18 : FVec F S8x3x128 .f32 := Host.absf main_arg5
  let main_cst_6 : FVec F S_ .f32 := constant S_ .f32 0x7F800000#32
  let main_v19 : FVec F S8x3x128 .f32 := broadcastInDim S8x3x128 ![] bcast_S_S8x3x128 main_cst_6
  let main_v20 : IVec S8x3x128 1 := cmpf .olt main_v18 main_v19
  (main_v8, main_v11, main_v14, main_v17, main_v20)

def fn {F : FTy → Type} [FloatOps F] (main_arg0 : FVec F S10000x3x128 .f32) (main_arg1 : FVec F S10000x3x128 .f32) (main_arg2 : FVec F S10000x10000 .f32) (main_arg3 : FVec F S10000x10000 .f32) (main_arg4 : FVec F S128x3x8 .f32) (main_arg5 : FVec F S8x3x128 .f32) (main_arg6 : FVec F S1x8x8 .f32) (main_arg7 : FVec F S1 .f32) : IVec S10000x10000 1 × IVec S10000x10000 1 × IVec S10000x3x128 1 × IVec S128x3x8 1 × IVec S8x3x128 1 :=
  let main_cst : FVec F S_ .f32 := constant S_ .f32 0x00000000#32
  let main_v0 : FVec F S10000x10000 .f32 := broadcastInDim S10000x10000 ![] bcast_S_S10000x10000 main_cst
  let main_v1 : IVec S10000x10000 1 := cmpf .ogt main_arg2 main_v0
  let main_cst_0 : FVec F S_ .f32 := constant S_ .f32 0x3F800000#32
  let main_v2 : FVec F S10000x10000 .f32 := broadcastInDim S10000x10000 ![] bcast_S_S10000x10000 main_cst_0
  let main_cst_1 : FVec F S_ .f32 := constant S_ .f32 0x00000000#32
  let main_v3 : FVec F S10000x10000 .f32 := broadcastInDim S10000x10000 ![] bcast_S_S10000x10000 main_cst_1
  let main_v4 : FVec F S10000x10000 .f32 := select main_v1 main_v2 main_v3
  let main_cst_2 : FVec F S_ .f32 := constant S_ .f32 0x00000000#32
  let main_v5 : FVec F S10000 .f32 := (fun x v => Host.reduceAdd x v reducesTo_S10000x10000_S10000_d1 h_S_) main_v4 main_cst_2
  let main_v6 : FVec F S10000x10000 .f32 := broadcastInDim S10000x10000 ![0] bcast_S10000_S10000x10000_0 main_v5
  let main_v7 : FVec F S10000x10000 .f32 := Host.divf main_v4 main_v6
  let main_v8 : IVec S10000x10000 1 := cmpf .oeq main_arg2 main_v7
  let main_v9 : FVec F S10000x10000 .f32 := Host.absf main_arg2
  let main_cst_3 : FVec F S_ .f32 := constant S_ .f32 0x7F800000#32
  let main_v10 : FVec F S10000x10000 .f32 := broadcastInDim S10000x10000 ![] bcast_S_S10000x10000 main_cst_3
  let main_v11 : IVec S10000x10000 1 := cmpf .olt main_v9 main_v10
  let main_v12 : FVec F S10000x3x128 .f32 := Host.absf main_arg0
  let main_cst_4 : FVec F S_ .f32 := constant S_ .f32 0x7F800000#32
  let main_v13 : FVec F S10000x3x128 .f32 := broadcastInDim S10000x3x128 ![] bcast_S_S10000x3x128 main_cst_4
  let main_v14 : IVec S10000x3x128 1 := cmpf .olt main_v12 main_v13
  let main_v15 : FVec F S128x3x8 .f32 := Host.absf main_arg4
  let main_cst_5 : FVec F S_ .f32 := constant S_ .f32 0x7F800000#32
  let main_v16 : FVec F S128x3x8 .f32 := broadcastInDim S128x3x8 ![] bcast_S_S128x3x8 main_cst_5
  fn_part1 (F := F) main_arg5 main_v8 main_v11 main_v14 main_v15 main_v16
-- ==== Kernel.lean ====
abbrev S10000x3x128 : Shape := ⟨3, ![10000, 3, 128]⟩
abbrev S10000x10000 : Shape := ⟨2, ![10000, 10000]⟩
abbrev S128x3x8 : Shape := ⟨3, ![128, 3, 8]⟩
abbrev S8x3x128 : Shape := ⟨3, ![8, 3, 128]⟩
abbrev S1x8x8 : Shape := ⟨3, ![1, 8, 8]⟩
abbrev S1 : Shape := ⟨1, ![1]⟩
abbrev S48x48 : Shape := ⟨2, ![48, 48]⟩
abbrev S48x6 : Shape := ⟨2, ![48, 6]⟩
abbrev S25x400 : Shape := ⟨2, ![25, 400]⟩
abbrev S1x1 : Shape := ⟨2, ![1, 1]⟩
abbrev S10000x384 : Shape := ⟨2, ![10000, 384]⟩
abbrev S10000x48 : Shape := ⟨2, ![10000, 48]⟩
abbrev S10000x24 : Shape := ⟨2, ![10000, 24]⟩
abbrev S10000x32 : Shape := ⟨2, ![10000, 32]⟩
abbrev S10000x64 : Shape := ⟨2, ![10000, 64]⟩
abbrev S25x25x10000 : Shape := ⟨3, ![25, 25, 10000]⟩
abbrev S10000x6 : Shape := ⟨2, ![10000, 6]⟩
abbrev S10000x3x2 : Shape := ⟨3, ![10000, 3, 2]⟩
abbrev S1000x384 : Shape := ⟨2, ![1000, 384]⟩
abbrev S1000x48 : Shape := ⟨2, ![1000, 48]⟩
abbrev S1000x128 : Shape := ⟨2, ![1000, 128]⟩
abbrev S128x1x8 : Shape := ⟨3, ![128, 1, 8]⟩
abbrev S128x8 : Shape := ⟨2, ![128, 8]⟩
abbrev S1000x8 : Shape := ⟨2, ![1000, 8]⟩
abbrev S400x10000 : Shape := ⟨2, ![400, 10000]⟩
abbrev S400x24 : Shape := ⟨2, ![400, 24]⟩
abbrev S400x32 : Shape := ⟨2, ![400, 32]⟩
abbrev S400x48 : Shape := ⟨2, ![400, 48]⟩
abbrev S400x64 : Shape := ⟨2, ![400, 64]⟩
abbrev S1x25x10000 : Shape := ⟨3, ![1, 25, 10000]⟩
abbrev S400x8 : Shape := ⟨2, ![400, 8]⟩
abbrev S400x16 : Shape := ⟨2, ![400, 16]⟩
abbrev S25x10000 : Shape := ⟨2, ![25, 10000]⟩
abbrev S400x6 : Shape := ⟨2, ![400, 6]⟩
abbrev S8x8 : Shape := ⟨2, ![8, 8]⟩
abbrev S400x1 : Shape := ⟨2, ![400, 1]⟩
abbrev S400x3x128 : Shape := ⟨3, ![400, 3, 128]⟩
abbrev S8x1x128 : Shape := ⟨3, ![8, 1, 128]⟩
abbrev S8x128 : Shape := ⟨2, ![8, 128]⟩
abbrev S400x128 : Shape := ⟨2, ![400, 128]⟩
abbrev S400x1x128 : Shape := ⟨3, ![400, 1, 128]⟩

abbrev nBuf : Space → Nat
  | .hbm => 26
  | .vmem => 41
  | .smem => 0
  | _ => 0

abbrev bufTy : (tb : Table) → Fin (tcTables nBuf tb) → BufTy
  | .hbm, ⟨0, _⟩ => ⟨S10000x3x128, .f32⟩
  | .hbm, ⟨1, _⟩ => ⟨S10000x3x128, .f32⟩
  | .hbm, ⟨2, _⟩ => ⟨S10000x10000, .f32⟩
  | .hbm, ⟨3, _⟩ => ⟨S10000x10000, .f32⟩
  | .hbm, ⟨4, _⟩ => ⟨S128x3x8, .f32⟩
  | .hbm, ⟨5, _⟩ => ⟨S8x3x128, .f32⟩
  | .hbm, ⟨6, _⟩ => ⟨S1x8x8, .f32⟩
  | .hbm, ⟨7, _⟩ => ⟨S1, .f32⟩
  | .hbm, ⟨8, _⟩ => ⟨S48x48, .f32⟩
  | .hbm, ⟨9, _⟩ => ⟨S48x6, .f32⟩
  | .hbm, ⟨10, _⟩ => ⟨S48x6, .f32⟩
  | .hbm, ⟨11, _⟩ => ⟨S25x400, .f32⟩
  | .hbm, ⟨12, _⟩ => ⟨S1x1, .f32⟩
  | .hbm, ⟨13, _⟩ => ⟨S10000x384, .f32⟩
  | .hbm, ⟨14, _⟩ => ⟨S10000x384, .f32⟩
  | .hbm, ⟨15, _⟩ => ⟨S10000x48, .f32⟩
  | .hbm, ⟨16, _⟩ => ⟨S10000x24, .f32⟩
  | .hbm, ⟨17, _⟩ => ⟨S10000x32, .f32⟩
  | .hbm, ⟨18, _⟩ => ⟨S10000x48, .f32⟩
  | .hbm, ⟨19, _⟩ => ⟨S10000x64, .f32⟩
  | .hbm, ⟨20, _⟩ => ⟨S25x25x10000, .f32⟩
  | .hbm, ⟨21, _⟩ => ⟨S10000x6, .f32⟩
  | .hbm, ⟨22, _⟩ => ⟨S10000x6, .f32⟩
  | .hbm, ⟨23, _⟩ => ⟨S10000x3x128, .f32⟩
  | .hbm, ⟨24, _⟩ => ⟨S10000x3x2, .f32⟩
  | .hbm, ⟨25, _⟩ => ⟨S10000x3x2, .f32⟩
  | .local _ .vmem, ⟨0, _⟩ => ⟨S1000x384, .f32⟩
  | .local _ .vmem, ⟨1, _⟩ => ⟨S1000x384, .f32⟩
  | .local _ .vmem, ⟨2, _⟩ => ⟨S1000x384, .f32⟩
  | .local _ .vmem, ⟨3, _⟩ => ⟨S1000x384, .f32⟩
  | .local _ .vmem, ⟨4, _⟩ => ⟨S128x3x8, .f32⟩
  | .local _ .vmem, ⟨5, _⟩ => ⟨S1000x48, .f32⟩
  | .local _ .vmem, ⟨6, _⟩ => ⟨S1000x48, .f32⟩
  | .local _ .vmem, ⟨7, _⟩ => ⟨S400x10000, .f32⟩
  | .local _ .vmem, ⟨8, _⟩ => ⟨S400x10000, .f32⟩
  | .local _ .vmem, ⟨9, _⟩ => ⟨S10000x48, .f32⟩
  | .local _ .vmem, ⟨10, _⟩ => ⟨S25x400, .f32⟩
  | .local _ .vmem, ⟨11, _⟩ => ⟨S400x24, .f32⟩
  | .local _ .vmem, ⟨12, _⟩ => ⟨S400x24, .f32⟩
  | .local _ .vmem, ⟨13, _⟩ => ⟨S400x32, .f32⟩
  | .local _ .vmem, ⟨14, _⟩ => ⟨S400x32, .f32⟩
  | .local _ .vmem, ⟨15, _⟩ => ⟨S400x48, .f32⟩
  | .local _ .vmem, ⟨16, _⟩ => ⟨S400x48, .f32⟩
  | .local _ .vmem, ⟨17, _⟩ => ⟨S400x64, .f32⟩
  | .local _ .vmem, ⟨18, _⟩ => ⟨S400x64, .f32⟩
  | .local _ .vmem, ⟨19, _⟩ => ⟨S1x25x10000, .f32⟩
  | .local _ .vmem, ⟨20, _⟩ => ⟨S1x25x10000, .f32⟩
  | .local _ .vmem, ⟨21, _⟩ => ⟨S400x10000, .f32⟩
  | .local _ .vmem, ⟨22, _⟩ => ⟨S400x10000, .f32⟩
  | .local _ .vmem, ⟨23, _⟩ => ⟨S10000x64, .f32⟩
  | .local _ .vmem, ⟨24, _⟩ => ⟨S400x48, .f32⟩
  | .local _ .vmem, ⟨25, _⟩ => ⟨S400x48, .f32⟩
  | .local _ .vmem, ⟨26, _⟩ => ⟨S1x8x8, .f32⟩
  | .local _ .vmem, ⟨27, _⟩ => ⟨S48x48, .f32⟩
  | .local _ .vmem, ⟨28, _⟩ => ⟨S48x6, .f32⟩
  | .local _ .vmem, ⟨29, _⟩ => ⟨S48x6, .f32⟩
  | .local _ .vmem, ⟨30, _⟩ => ⟨S1x1, .f32⟩
  | .local _ .vmem, ⟨31, _⟩ => ⟨S400x6, .f32⟩
  | .local _ .vmem, ⟨32, _⟩ => ⟨S400x6, .f32⟩
  | .local _ .vmem, ⟨33, _⟩ => ⟨S400x6, .f32⟩
  | .local _ .vmem, ⟨34, _⟩ => ⟨S400x6, .f32⟩
  | .local _ .vmem, ⟨35, _⟩ => ⟨S1x25x10000, .f32⟩
  | .local _ .vmem, ⟨36, _⟩ => ⟨S1x25x10000, .f32⟩
  | .local _ .vmem, ⟨37, _⟩ => ⟨S10000x32, .f32⟩
  | .local _ .vmem, ⟨38, _⟩ => ⟨S8x3x128, .f32⟩
  | .local _ .vmem, ⟨39, _⟩ => ⟨S400x3x128, .f32⟩
  | .local _ .vmem, ⟨40, _⟩ => ⟨S400x3x128, .f32⟩
  | _, _ => ⟨S10000x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_cst_0 : Ref sig .tc := ⟨.hbm, 9, rfl⟩
abbrev main_call0_cst_1 : Ref sig .tc := ⟨.hbm, 10, rfl⟩
abbrev main_call0_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v0_0 : Ref sig .tc := ⟨.hbm, 16, rfl⟩
abbrev main_call0_v4_1 : Ref sig .tc := ⟨.hbm, 17, rfl⟩
abbrev main_call0_v4_2 : Ref sig .tc := ⟨.hbm, 18, rfl⟩
abbrev main_call0_v4_3 : Ref sig .tc := ⟨.hbm, 19, rfl⟩
abbrev main_call0_v4_4 : Ref sig .tc := ⟨.hbm, 20, rfl⟩
abbrev main_call0_v5_0 : Ref sig .tc := ⟨.hbm, 21, rfl⟩
abbrev main_call0_v5_1 : Ref sig .tc := ⟨.hbm, 22, rfl⟩
abbrev main_v0_1 : Ref sig .tc := ⟨.hbm, 23, rfl⟩
abbrev main_v0_2 : Ref sig .tc := ⟨.hbm, 24, rfl⟩
abbrev main_v0_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg3_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem3_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S25x400 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x24 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x48 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x25x10000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x8x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S48x48 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S48x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S48x6 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x6 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S400x6 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x25x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x3x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x3x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S10000x3x128 : Shape := ⟨3, ![10000, 3, 128]⟩
abbrev S10000x10000 : Shape := ⟨2, ![10000, 10000]⟩
abbrev S128x3x8 : Shape := ⟨3, ![128, 3, 8]⟩
abbrev S8x3x128 : Shape := ⟨3, ![8, 3, 128]⟩
abbrev S1x8x8 : Shape := ⟨3, ![1, 8, 8]⟩
abbrev S1 : Shape := ⟨1, ![1]⟩
abbrev S10000x1x128 : Shape := ⟨3, ![10000, 1, 128]⟩
abbrev S10000x128 : Shape := ⟨2, ![10000, 128]⟩
abbrev S128x1x8 : Shape := ⟨3, ![128, 1, 8]⟩
abbrev S128x8 : Shape := ⟨2, ![128, 8]⟩
abbrev S10000x8 : Shape := ⟨2, ![10000, 8]⟩
abbrev S8x1x128 : Shape := ⟨3, ![8, 1, 128]⟩
abbrev S8x128 : Shape := ⟨2, ![8, 128]⟩
abbrev S_ : Shape := ⟨0, ![]⟩
abbrev S10000 : Shape := ⟨1, ![10000]⟩
abbrev S10000x1 : Shape := ⟨2, ![10000, 1]⟩
abbrev S1x8x10000 : Shape := ⟨3, ![1, 8, 10000]⟩
abbrev S1x1 : Shape := ⟨2, ![1, 1]⟩
abbrev S10000x2 : Shape := ⟨2, ![10000, 2]⟩
abbrev S10000x1x8 : Shape := ⟨3, ![10000, 1, 8]⟩
abbrev S10000x3x8 : Shape := ⟨3, ![10000, 3, 8]⟩
abbrev S10000x24 : Shape := ⟨2, ![10000, 24]⟩
abbrev S10000x1x2 : Shape := ⟨3, ![10000, 1, 2]⟩
abbrev S10000x3x2 : Shape := ⟨3, ![10000, 3, 2]⟩

abbrev nBuf : Space → Nat
  | .hbm => 301
  | .vmem => 0
  | .smem => 0
  | _ => 0

abbrev hbmTy0_0 (i : Nat) : BufTy := match i % 128 with
  | 0 => ⟨S10000x3x128, .f32⟩
  | 1 => ⟨S10000x3x128, .f32⟩
  | 2 => ⟨S10000x10000, .f32⟩
  | 3 => ⟨S10000x10000, .f32⟩
  | 4 => ⟨S128x3x8, .f32⟩
  | 5 => ⟨S8x3x128, .f32⟩
  | 6 => ⟨S1x8x8, .f32⟩
  | 7 => ⟨S1, .f32⟩
  | 8 => ⟨S10000x1x128, .f32⟩
  | 9 => ⟨S10000x128, .f32⟩
  | 10 => ⟨S10000x1x128, .f32⟩
  | 11 => ⟨S10000x128, .f32⟩
  | 12 => ⟨S128x1x8, .f32⟩
  | 13 => ⟨S128x8, .f32⟩
  | 14 => ⟨S10000x8, .f32⟩
  | 15 => ⟨S10000x8, .f32⟩
  | 16 => ⟨S8x1x128, .f32⟩
  | 17 => ⟨S8x128, .f32⟩
  | 18 => ⟨S10000x128, .f32⟩
  | 19 => ⟨S10000x128, .f32⟩
  | 20 => ⟨S128x1x8, .f32⟩
  | 21 => ⟨S128x8, .f32⟩
  | 22 => ⟨S10000x8, .f32⟩
  | 23 => ⟨S10000x8, .f32⟩
  | 24 => ⟨S_, .f32⟩
  | 25 => ⟨S10000x8, .f32⟩
  | 26 => ⟨S10000x8, .f32⟩
  | 27 => ⟨S_, .f32⟩
  | 28 => ⟨S10000x8, .f32⟩
  | 29 => ⟨S10000x8, .f32⟩
  | 30 => ⟨S10000x8, .f32⟩
  | 31 => ⟨S_, .f32⟩
  | 32 => ⟨S10000, .f32⟩
  | 33 => ⟨S10000x1, .f32⟩
  | 34 => ⟨S10000x8, .f32⟩
  | 35 => ⟨S10000x8, .f32⟩
  | 36 => ⟨S10000x8, .f32⟩
  | 37 => ⟨S_, .f32⟩
  | 38 => ⟨S10000, .f32⟩
  | 39 => ⟨S10000x1, .f32⟩
  | 40 => ⟨S10000x1, .f32⟩
  | 41 => ⟨S_, .f32⟩
  | 42 => ⟨S10000x1, .f32⟩
  | 43 => ⟨S10000x1, .f32⟩
  | 44 => ⟨S10000x8, .f32⟩
  | 45 => ⟨S10000x8, .f32⟩
  | 46 => ⟨S10000x8, .f32⟩
  | 47 => ⟨S10000x8, .f32⟩
  | 48 => ⟨S_, .f32⟩
  | 49 => ⟨S10000x8, .f32⟩
  | 50 => ⟨S10000x8, .f32⟩
  | 51 => ⟨S_, .f32⟩
  | 52 => ⟨S10000x8, .f32⟩
  | 53 => ⟨S10000x8, .f32⟩
  | 54 => ⟨S10000x8, .f32⟩
  | 55 => ⟨S_, .f32⟩
  | 56 => ⟨S10000, .f32⟩
  | 57 => ⟨S10000x1, .f32⟩
  | 58 => ⟨S10000x8, .f32⟩
  | 59 => ⟨S10000x8, .f32⟩
  | 60 => ⟨S10000x8, .f32⟩
  | 61 => ⟨S_, .f32⟩
  | 62 => ⟨S10000, .f32⟩
  | 63 => ⟨S10000x1, .f32⟩
  | 64 => ⟨S10000x1, .f32⟩
  | 65 => ⟨S_, .f32⟩
  | 66 => ⟨S10000x1, .f32⟩
  | 67 => ⟨S10000x1, .f32⟩
  | 68 => ⟨S10000x8, .f32⟩
  | 69 => ⟨S10000x8, .f32⟩
  | 70 => ⟨S10000x8, .f32⟩
  | 71 => ⟨S10000x8, .f32⟩
  | 72 => ⟨S_, .f32⟩
  | 73 => ⟨S10000x8, .f32⟩
  | 74 => ⟨S10000x8, .f32⟩
  | 75 => ⟨S_, .f32⟩
  | 76 => ⟨S10000x8, .f32⟩
  | 77 => ⟨S10000x8, .f32⟩
  | 78 => ⟨S1x8x10000, .f32⟩
  | 79 => ⟨S10000x1, .f32⟩
  | 80 => ⟨S1x1, .f32⟩
  | 81 => ⟨S10000x1, .f32⟩
  | 82 => ⟨S10000x1, .f32⟩
  | 83 => ⟨S1x8x10000, .f32⟩
  | 84 => ⟨S10000x1, .f32⟩
  | 85 => ⟨S1x1, .f32⟩
  | 86 => ⟨S10000x1, .f32⟩
  | 87 => ⟨S10000x1, .f32⟩
  | 88 => ⟨S10000x2, .f32⟩
  | 89 => ⟨S1x8x10000, .f32⟩
  | 90 => ⟨S10000x1, .f32⟩
  | 91 => ⟨S1x1, .f32⟩
  | 92 => ⟨S10000x1, .f32⟩
  | 93 => ⟨S10000x1, .f32⟩
  | 94 => ⟨S1x8x10000, .f32⟩
  | 95 => ⟨S10000x1, .f32⟩
  | 96 => ⟨S1x1, .f32⟩
  | 97 => ⟨S10000x1, .f32⟩
  | 98 => ⟨S10000x1, .f32⟩
  | 99 => ⟨S10000x2, .f32⟩
  | 100 => ⟨S10000x1x128, .f32⟩
  | 101 => ⟨S10000x128, .f32⟩
  | 102 => ⟨S10000x1x128, .f32⟩
  | 103 => ⟨S10000x128, .f32⟩
  | 104 => ⟨S128x1x8, .f32⟩
  | 105 => ⟨S128x8, .f32⟩
  | 106 => ⟨S10000x8, .f32⟩
  | 107 => ⟨S10000x8, .f32⟩
  | 108 => ⟨S8x1x128, .f32⟩
  | 109 => ⟨S8x128, .f32⟩
  | 110 => ⟨S10000x128, .f32⟩
  | 111 => ⟨S10000x128, .f32⟩
  | 112 => ⟨S128x1x8, .f32⟩
  | 113 => ⟨S128x8, .f32⟩
  | 114 => ⟨S10000x8, .f32⟩
  | 115 => ⟨S10000x8, .f32⟩
  | 116 => ⟨S_, .f32⟩
  | 117 => ⟨S10000x8, .f32⟩
  | 118 => ⟨S10000x8, .f32⟩
  | 119 => ⟨S_, .f32⟩
  | 120 => ⟨S10000x8, .f32⟩
  | 121 => ⟨S10000x8, .f32⟩
  | 122 => ⟨S10000x8, .f32⟩
  | 123 => ⟨S_, .f32⟩
  | 124 => ⟨S10000, .f32⟩
  | 125 => ⟨S10000x1, .f32⟩
  | 126 => ⟨S10000x8, .f32⟩
  | 127 => ⟨S10000x8, .f32⟩
  | _ => ⟨S10000x3x128, .f32⟩

abbrev hbmTy0_1 (i : Nat) : BufTy := match i % 128 with
  | 0 => ⟨S10000x8, .f32⟩
  | 1 => ⟨S_, .f32⟩
  | 2 => ⟨S10000, .f32⟩
  | 3 => ⟨S10000x1, .f32⟩
  | 4 => ⟨S10000x1, .f32⟩
  | 5 => ⟨S_, .f32⟩
  | 6 => ⟨S10000x1, .f32⟩
  | 7 => ⟨S10000x1, .f32⟩
  | 8 => ⟨S10000x8, .f32⟩
  | 9 => ⟨S10000x8, .f32⟩
  | 10 => ⟨S10000x8, .f32⟩
  | 11 => ⟨S10000x8, .f32⟩
  | 12 => ⟨S_, .f32⟩
  | 13 => ⟨S10000x8, .f32⟩
  | 14 => ⟨S10000x8, .f32⟩
  | 15 => ⟨S_, .f32⟩
  | 16 => ⟨S10000x8, .f32⟩
  | 17 => ⟨S10000x8, .f32⟩
  | 18 => ⟨S10000x8, .f32⟩
  | 19 => ⟨S_, .f32⟩
  | 20 => ⟨S10000, .f32⟩
  | 21 => ⟨S10000x1, .f32⟩
  | 22 => ⟨S10000x8, .f32⟩
  | 23 => ⟨S10000x8, .f32⟩
  | 24 => ⟨S10000x8, .f32⟩
  | 25 => ⟨S_, .f32⟩
  | 26 => ⟨S10000, .f32⟩
  | 27 => ⟨S10000x1, .f32⟩
  | 28 => ⟨S10000x1, .f32⟩
  | 29 => ⟨S_, .f32⟩
  | 30 => ⟨S10000x1, .f32⟩
  | 31 => ⟨S10000x1, .f32⟩
  | 32 => ⟨S10000x8, .f32⟩
  | 33 => ⟨S10000x8, .f32⟩
  | 34 => ⟨S10000x8, .f32⟩
  | 35 => ⟨S10000x8, .f32⟩
  | 36 => ⟨S_, .f32⟩
  | 37 => ⟨S10000x8, .f32⟩
  | 38 => ⟨S10000x8, .f32⟩
  | 39 => ⟨S_, .f32⟩
  | 40 => ⟨S10000x8, .f32⟩
  | 41 => ⟨S10000x8, .f32⟩
  | 42 => ⟨S1x8x10000, .f32⟩
  | 43 => ⟨S10000x1, .f32⟩
  | 44 => ⟨S1x1, .f32⟩
  | 45 => ⟨S10000x1, .f32⟩
  | 46 => ⟨S10000x1, .f32⟩
  | 47 => ⟨S1x8x10000, .f32⟩
  | 48 => ⟨S10000x1, .f32⟩
  | 49 => ⟨S1x1, .f32⟩
  | 50 => ⟨S10000x1, .f32⟩
  | 51 => ⟨S10000x1, .f32⟩
  | 52 => ⟨S10000x2, .f32⟩
  | 53 => ⟨S1x8x10000, .f32⟩
  | 54 => ⟨S10000x1, .f32⟩
  | 55 => ⟨S1x1, .f32⟩
  | 56 => ⟨S10000x1, .f32⟩
  | 57 => ⟨S10000x1, .f32⟩
  | 58 => ⟨S1x8x10000, .f32⟩
  | 59 => ⟨S10000x1, .f32⟩
  | 60 => ⟨S1x1, .f32⟩
  | 61 => ⟨S10000x1, .f32⟩
  | 62 => ⟨S10000x1, .f32⟩
  | 63 => ⟨S10000x2, .f32⟩
  | 64 => ⟨S10000x1x128, .f32⟩
  | 65 => ⟨S10000x128, .f32⟩
  | 66 => ⟨S10000x1x128, .f32⟩
  | 67 => ⟨S10000x128, .f32⟩
  | 68 => ⟨S128x1x8, .f32⟩
  | 69 => ⟨S128x8, .f32⟩
  | 70 => ⟨S10000x8, .f32⟩
  | 71 => ⟨S10000x8, .f32⟩
  | 72 => ⟨S8x1x128, .f32⟩
  | 73 => ⟨S8x128, .f32⟩
  | 74 => ⟨S10000x128, .f32⟩
  | 75 => ⟨S10000x128, .f32⟩
  | 76 => ⟨S128x1x8, .f32⟩
  | 77 => ⟨S128x8, .f32⟩
  | 78 => ⟨S10000x8, .f32⟩
  | 79 => ⟨S10000x8, .f32⟩
  | 80 => ⟨S_, .f32⟩
  | 81 => ⟨S10000x8, .f32⟩
  | 82 => ⟨S10000x8, .f32⟩
  | 83 => ⟨S_, .f32⟩
  | 84 => ⟨S10000x8, .f32⟩
  | 85 => ⟨S10000x8, .f32⟩
  | 86 => ⟨S10000x8, .f32⟩
  | 87 => ⟨S_, .f32⟩
  | 88 => ⟨S10000, .f32⟩
  | 89 => ⟨S10000x1, .f32⟩
  | 90 => ⟨S10000x8, .f32⟩
  | 91 => ⟨S10000x8, .f32⟩
  | 92 => ⟨S10000x8, .f32⟩
  | 93 => ⟨S_, .f32⟩
  | 94 => ⟨S10000, .f32⟩
  | 95 => ⟨S10000x1, .f32⟩
  | 96 => ⟨S10000x1, .f32⟩
  | 97 => ⟨S_, .f32⟩
  | 98 => ⟨S10000x1, .f32⟩
  | 99 => ⟨S10000x1, .f32⟩
  | 100 => ⟨S10000x8, .f32⟩
  | 101 => ⟨S10000x8, .f32⟩
  | 102 => ⟨S10000x8, .f32⟩
  | 103 => ⟨S10000x8, .f32⟩
  | 104 => ⟨S_, .f32⟩
  | 105 => ⟨S10000x8, .f32⟩
  | 106 => ⟨S10000x8, .f32⟩
  | 107 => ⟨S_, .f32⟩
  | 108 => ⟨S10000x8, .f32⟩
  | 109 => ⟨S10000x8, .f32⟩
  | 110 => ⟨S10000x8, .f32⟩
  | 111 => ⟨S_, .f32⟩
  | 112 => ⟨S10000, .f32⟩
  | 113 => ⟨S10000x1, .f32⟩
  | 114 => ⟨S10000x8, .f32⟩
  | 115 => ⟨S10000x8, .f32⟩
  | 116 => ⟨S10000x8, .f32⟩
  | 117 => ⟨S_, .f32⟩
  | 118 => ⟨S10000, .f32⟩
  | 119 => ⟨S10000x1, .f32⟩
  | 120 => ⟨S10000x1, .f32⟩
  | 121 => ⟨S_, .f32⟩
  | 122 => ⟨S10000x1, .f32⟩
  | 123 => ⟨S10000x1, .f32⟩
  | 124 => ⟨S10000x8, .f32⟩
  | 125 => ⟨S10000x8, .f32⟩
  | 126 => ⟨S10000x8, .f32⟩
  | 127 => ⟨S10000x8, .f32⟩
  | _ => ⟨S10000x3x128, .f32⟩

abbrev hbmTy0_2 (i : Nat) : BufTy := match i % 128 with
  | 0 => ⟨S_, .f32⟩
  | 1 => ⟨S10000x8, .f32⟩
  | 2 => ⟨S10000x8, .f32⟩
  | 3 => ⟨S_, .f32⟩
  | 4 => ⟨S10000x8, .f32⟩
  | 5 => ⟨S10000x8, .f32⟩
  | 6 => ⟨S1x8x10000, .f32⟩
  | 7 => ⟨S10000x1, .f32⟩
  | 8 => ⟨S1x1, .f32⟩
  | 9 => ⟨S10000x1, .f32⟩
  | 10 => ⟨S10000x1, .f32⟩
  | 11 => ⟨S1x8x10000, .f32⟩
  | 12 => ⟨S10000x1, .f32⟩
  | 13 => ⟨S1x1, .f32⟩
  | 14 => ⟨S10000x1, .f32⟩
  | 15 => ⟨S10000x1, .f32⟩
  | 16 => ⟨S10000x2, .f32⟩
  | 17 => ⟨S1x8x10000, .f32⟩
  | 18 => ⟨S10000x1, .f32⟩
  | 19 => ⟨S1x1, .f32⟩
  | 20 => ⟨S10000x1, .f32⟩
  | 21 => ⟨S10000x1, .f32⟩
  | 22 => ⟨S1x8x10000, .f32⟩
  | 23 => ⟨S10000x1, .f32⟩
  | 24 => ⟨S1x1, .f32⟩
  | 25 => ⟨S10000x1, .f32⟩
  | 26 => ⟨S10000x1, .f32⟩
  | 27 => ⟨S10000x2, .f32⟩
  | 28 => ⟨S10000x1x8, .f32⟩
  | 29 => ⟨S10000x1x8, .f32⟩
  | 30 => ⟨S10000x1x8, .f32⟩
  | 31 => ⟨S10000x3x8, .f32⟩
  | 32 => ⟨S10000x24, .f32⟩
  | 33 => ⟨S10000x1x128, .f32⟩
  | 34 => ⟨S10000x1x128, .f32⟩
  | 35 => ⟨S10000x1x128, .f32⟩
  | 36 => ⟨S10000x3x128, .f32⟩
  | 37 => ⟨S10000x1x2, .f32⟩
  | 38 => ⟨S10000x1x2, .f32⟩
  | 39 => ⟨S10000x1x2, .f32⟩
  | 40 => ⟨S10000x3x2, .f32⟩
  | 41 => ⟨S10000x1x2, .f32⟩
  | 42 => ⟨S10000x1x2, .f32⟩
  | 43 => ⟨S10000x1x2, .f32⟩
  | 44 => ⟨S10000x3x2, .f32⟩
  | _ => ⟨S10000x3x128, .f32⟩

abbrev hbmTy (i : Nat) : BufTy := match i / 128 with
  | 0 => hbmTy0_0 i
  | 1 => hbmTy0_1 i
  | 2 => hbmTy0_2 i
  | _ => ⟨S10000x3x128, .f32⟩

abbrev bufTy : (tb : Table) → Fin (tcTables nBuf tb) → BufTy
  | .hbm, ⟨i, _⟩ => hbmTy i
  | _, _ => ⟨S10000x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_call2_cst : Ref sig .tc := ⟨.hbm, 116, rfl⟩
abbrev main_call2_v0 : Ref sig .tc := ⟨.hbm, 117, rfl⟩
abbrev main_v94 : Ref sig .tc := ⟨.hbm, 118, rfl⟩
abbrev main_call3_cst : Ref sig .tc := ⟨.hbm, 119, rfl⟩
abbrev main_call3_v0 : Ref sig .tc := ⟨.hbm, 120, rfl⟩
abbrev main_v95 : Ref sig .tc := ⟨.hbm, 121, rfl⟩
abbrev main_v96 : Ref sig .tc := ⟨.hbm, 122, rfl⟩
abbrev main_cst_9 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_10 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_11 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_12 : Ref sig .tc := ⟨.hbm, 140, rfl⟩
abbrev main_v111 : Ref sig .tc := ⟨.hbm, 141, rfl⟩
abbrev main_v112 : Ref sig .tc := ⟨.hbm, 142, rfl⟩
abbrev main_cst_13 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_14 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_15 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_16 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_17 : Ref sig .tc := ⟨.hbm, 164, rfl⟩
abbrev main_v130 : Ref sig .tc := ⟨.hbm, 165, rfl⟩
abbrev main_v131 : Ref sig .tc := ⟨.hbm, 166, rfl⟩
abbrev main_cst_18 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_call4_cst : Ref sig .tc := ⟨.hbm, 208, rfl⟩
abbrev main_call4_v0 : Ref sig .tc := ⟨.hbm, 209, rfl⟩
abbrev main_v172 : Ref sig .tc := ⟨.hbm, 210, rfl⟩
abbrev main_call5_cst : Ref sig .tc := ⟨.hbm, 211, rfl⟩
abbrev main_call5_v0 : Ref sig .tc := ⟨.hbm, 212, rfl⟩
abbrev main_v173 : Ref sig .tc := ⟨.hbm, 213, rfl⟩
abbrev main_v174 : Ref sig .tc := ⟨.hbm, 214, rfl⟩
abbrev main_cst_19 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_cst_20 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_cst_21 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_22 : Ref sig .tc := ⟨.hbm, 232, rfl⟩
abbrev main_v189 : Ref sig .tc := ⟨.hbm, 233, rfl⟩
abbrev main_v190 : Ref sig .tc := ⟨.hbm, 234, rfl⟩
abbrev main_cst_23 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_cst_24 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_25 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_cst_26 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_cst_27 : Ref sig .tc := ⟨.hbm, 256, rfl⟩
abbrev main_v208 : Ref sig .tc := ⟨.hbm, 257, rfl⟩
abbrev main_v209 : Ref sig .tc := ⟨.hbm, 258, rfl⟩
abbrev main_cst_28 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩

abbrev nD : Nat := 1
abbrev τ : Topo := Topo.v7x

variable {F : FTy → Type} [FloatOps F]
-- ==== Proof.Region0.lean ====
/- What the first kernel call leaves: the six products of an image slice with a layer's encoder weights, side by side. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Encode

open Idealize.ShloMosaic Idealize.ShloMosaic.TcCoe Idealize.SL.Sem
open Idealize.ShloMosaic.Pipeline (Dat)
open Cert.KernelIdeal Cert.KernelIdeal.Gen

/-- Column `c` of the encoded block: slice `c / 8 % 3` of the image (of its augmented copy from column 24 on) times
    column `c % 8` of that layer's weights. -/
def encoded (X Y : FVec Ideal S10000x384 .f32) (w : FVec Ideal S128x3x8 .f32) : FVec Ideal S10000x48 .f32 := fun i =>
  ∑ f : Fin 128,
    (if (i 1).val < 24 then X (ix2 (i 0) ⟨(i 1).val / 8 % 3 * 128 + f.val, by have := f.isLt; omega⟩)
      else Y (ix2 (i 0) ⟨(i 1).val / 8 % 3 * 128 + f.val, by have := f.isLt; omega⟩))
    * w (ix3 f ⟨(i 1).val / 8 % 3, by omega⟩ ⟨(i 1).val % 8, by omega⟩)

variable (V : (c : Dev nD) → (b : Ref sig .tc) → Buf (Elt Ideal) ((c : Thread nD τ).loc b))

theorem idx : ∀ t : Fin cfg0.N, win0_0.index t = ![t.val, 0] ∧ win0_1.index t = ![t.val, 0]
    ∧ win0_2.index t = ![0, 0, 0] ∧ win0_3.index t = ![t.val, 0] :=
  (by decide +kernel : ∀ t : Fin grid0.N, _)

/-- A value chosen by cases is `c` when each choice is. -/
theorem dite_of {α : Type} {p : Prop} [Decidable p] {a : p → α} {b : ¬ p → α} (c : α) (ha : ∀ h, a h = c)
    (hb : ∀ h, b h = c) : dite p a b = c := by
  by_cases h : p
  · rw [dif_pos h]; exact ha h
  · rw [dif_neg h]; exact hb h

/-- The block a grid point writes, at an index, from the blocks it reads: the same sum within the block's rows. -/
theorem block_at (x y : Vec Ideal S1000x384 .f32) (w : Vec Ideal S128x3x8 .f32) (r : Fin 1000) (q : Fin 48) :
    out0_3 x y w (ix2 r q) = ∑ f : Fin 128,
      (if q.val < 24 then x (ix2 r ⟨q.val / 8 % 3 * 128 + f.val, by have := f.isLt; omega⟩)
        else y (ix2 r ⟨q.val / 8 % 3 * 128 + f.val, by have := f.isLt; omega⟩))
      * w (ix3 f ⟨q.val / 8 % 3, by omega⟩ ⟨q.val % 8, by omega⟩) := by
  frame_out
  unfold_payloads
  pointwise
  have hq : q.val < 48 := q.isLt
  repeat' refine dite_of _ (fun h => ?_) (fun h => ?_)
  all_goals
    refine Finset.sum_congr rfl fun f _ => Ideal.mul_congr ?_ ?_
    · first
      | rw [if_pos (by omega)]
      | rw [if_neg (by omega)]
      blk_ext
    · blk_ext

theorem block (x y : Vec Ideal S1000x384 .f32) (w : Vec Ideal S128x3x8 .f32) (i : S1000x48.Idx) :
    out0_3 x y w i = ∑ f : Fin 128,
      (if (i 1).val < 24 then x (ix2 (i 0) ⟨(i 1).val / 8 % 3 * 128 + f.val, by have := f.isLt; omega⟩)
        else y (ix2 (i 0) ⟨(i 1).val / 8 % 3 * 128 + f.val, by have := f.isLt; omega⟩))
      * w (ix3 f ⟨(i 1).val / 8 % 3, by omega⟩ ⟨(i 1).val % 8, by omega⟩) := by
  idx_vars i
  exact block_at x y w i0 i1

theorem arr (c : Dev nD) : (dat0 V c).arrAt 3 cfg0.N
    = encoded (V c main_call0_v1) (V c main_call0_v2) (V c main_arg4) := by
  refine (dat0 V c).arrAt_eq_of_covers 3 _ (by decide +kernel) fun t _ y => ?_
  blk_simp
  rw [after0_3, block]
  pointwise [encoded]
  blk_point [iblk0, idx t]

end Cert.KernelIdeal.Encode

end
-- ==== Proof.Region1.lean ====
/- What the second kernel call leaves: the encoded blocks spread along the adjacency matrix, whole, rectified and cut,
   and the positive entries of the matrix packed into words. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Spread

open Idealize.ShloMosaic Idealize.ShloMosaic.TcCoe Idealize.SL.Sem
open Idealize.ShloMosaic.Pipeline (Dat)
open Cert.KernelIdeal Cert.KernelIdeal.Gen

/-- Row `r` of the matrix against column `q` of the encoded blocks. -/
def spread (A : FVec Ideal S10000x10000 .f32) (H : FVec Ideal S10000x48 .f32) (r : Fin 10000) (q : Fin 48) : EReal :=
  ∑ j : Fin 10000, A (ix2 r j) * H (ix2 j q)

/-- The scores: the first 24 columns. -/
def score (A : FVec Ideal S10000x10000 .f32) (H : FVec Ideal S10000x48 .f32) : FVec Ideal S10000x24 .f32 := fun i =>
  spread A H (i 0) ⟨(i 1).val, by have := (i 1).isLt; exact lt_trans this (by decide)⟩

/-- The scores with eight columns of ones after them. -/
def scoreOnes (A : FVec Ideal S10000x10000 .f32) (H : FVec Ideal S10000x48 .f32) : FVec Ideal S10000x32 .f32 := fun i =>
  if h : (i 1).val < 24 then spread A H (i 0) ⟨(i 1).val, by omega⟩ else 1

/-- All 48 columns. -/
def both (A : FVec Ideal S10000x10000 .f32) (H : FVec Ideal S10000x48 .f32) : FVec Ideal S10000x48 .f32 := fun i =>
  spread A H (i 0) (i 1)

/-- All 48 columns rectified, with sixteen columns of ones after them. -/
def reluOnes (A : FVec Ideal S10000x10000 .f32) (H : FVec Ideal S10000x48 .f32) : FVec Ideal S10000x64 .f32 := fun i =>
  if h : (i 1).val < 48 then max (spread A H (i 0) ⟨(i 1).val, h⟩) 0 else 1

/-- The positive entries of each tile of 400 rows, weighted by `P` and added up. -/
def packed (A : FVec Ideal S10000x10000 .f32) (P : FVec Ideal S25x400 .f32) : FVec Ideal S25x25x10000 .f32 := fun i =>
  ∑ q : Fin 400, P (ix2 (i 1) q) *
    (if 0 < A (ix2 ⟨(i 0).val * 400 + q.val, by have := q.isLt; have : (i 0).val < 25 := (i 0).isLt; omega⟩ (i 2)) then 1 else 0)

/-- A comparison's outcome, widened and read as a number. -/
theorem bit_val (p : Prop) [Decidable p] :
    (FloatOps.sitofp (F := Ideal) FTy.f32 (BitVec.setWidth 32 (BitVec.ofBool (decide p))) : EReal) = if p then 1 else 0 := by
  show ((((BitVec.setWidth 32 (BitVec.ofBool (decide p))).toInt : ℝ)) : EReal) = _
  by_cases h : p <;> simp [h]

theorem pay1_at (x : Vec Ideal S400x10000 .f32) (y : Vec Ideal S10000x48 .f32) (r : Fin 400) (q : Fin 48) :
    k1_pay1 x y (ix2 r q) = ∑ j : Fin 10000, x (ix2 r j) * y (ix2 j q) := by
  unfold k1_pay1
  pointwise

theorem block3 (x : Vec Ideal S400x10000 .f32) (y : Vec Ideal S10000x48 .f32) (p : Vec Ideal S25x400 .f32) (i : S400x24.Idx) :
    out1_3 x y p i = ∑ j : Fin 10000, x (ix2 (i 0) j) * y (ix2 j ⟨(i 1).val, by have := (i 1).isLt; exact lt_trans this (by decide)⟩) := by
  idx_vars i
  frame_out
  unfold k1_pay2
  pointwise
  exact pay1_at x y i0 _

theorem block4 (x : Vec Ideal S400x10000 .f32) (y : Vec Ideal S10000x48 .f32) (p : Vec Ideal S25x400 .f32) (i : S400x32.Idx) :
    out1_4 x y p i = if h : (i 1).val < 24 then ∑ j : Fin 10000, x (ix2 (i 0) j) * y (ix2 j ⟨(i 1).val, by omega⟩) else 1 := by
  idx_vars i
  frame_out
  unfold k1_pay3
  pointwise
  simp only [pay1_at]

theorem block5 (x : Vec Ideal S400x10000 .f32) (y : Vec Ideal S10000x48 .f32) (p : Vec Ideal S25x400 .f32) (i : S400x48.Idx) :
    out1_5 x y p i = ∑ j : Fin 10000, x (ix2 (i 0) j) * y (ix2 j (i 1)) := by
  idx_vars i
  frame_out
  exact pay1_at x y i0 i1

theorem block6 (x : Vec Ideal S400x10000 .f32) (y : Vec Ideal S10000x48 .f32) (p : Vec Ideal S25x400 .f32) (i : S400x64.Idx) :
    out1_6 x y p i = if h : (i 1).val < 48 then max (∑ j : Fin 10000, x (ix2 (i 0) j) * y (ix2 j ⟨(i 1).val, h⟩)) 0 else 1 := by
  idx_vars i
  frame_out
  unfold k1_pay4
  pointwise
  simp only [pay1_at]

theorem block7 (x : Vec Ideal S400x10000 .f32) (y : Vec Ideal S10000x48 .f32) (p : Vec Ideal S25x400 .f32) (i : S1x25x10000.Idx) :
    out1_7 x y p i = ∑ q : Fin 400, p (ix2 (i 1) q) * (if 0 < x (ix2 q (i 2)) then 1 else 0) := by
  idx_vars i
  frame_out
  unfold k1_pay5
  pointwise
  simp only [bit_val]
  rfl

variable (V : (c : Dev nD) → (b : Ref sig .tc) → Buf (Elt Ideal) ((c : Thread nD τ).loc b))

theorem idx : ∀ t : Fin cfg1.N, win1_0.index t = ![t.val, 0] ∧ win1_1.index t = ![0, 0] ∧ win1_2.index t = ![0, 0]
    ∧ win1_3.index t = ![t.val, 0] ∧ win1_4.index t = ![t.val, 0] ∧ win1_5.index t = ![t.val, 0]
    ∧ win1_6.index t = ![t.val, 0] ∧ win1_7.index t = ![t.val, 0, 0] :=
  (by decide +kernel : ∀ t : Fin grid1.N, _)

theorem arr3 (c : Dev nD) : (dat1 V c).arrAt 3 cfg1.N = score (V c main_arg2) (V c main_call0_v3) := by
  refine (dat1 V c).arrAt_eq_of_covers 3 _ (by decide +kernel) fun t _ y => ?_
  blk_simp
  rw [after1_3, block3]
  pointwise [score, spread]
  blk_point [iblk1, idx t]

theorem arr4 (c : Dev nD) : (dat1 V c).arrAt 4 cfg1.N = scoreOnes (V c main_arg2) (V c main_call0_v3) := by
  refine (dat1 V c).arrAt_eq_of_covers 4 _ (by decide +kernel) fun t _ y => ?_
  blk_simp
  rw [after1_4, block4]
  pointwise [scoreOnes, spread]
  blk_point [iblk1, idx t]
  all_goals
    rename_i h h' _
    exfalso
    blk_simp [idx t] at h h'
    omega

theorem arr5 (c : Dev nD) : (dat1 V c).arrAt 5 cfg1.N = both (V c main_arg2) (V c main_call0_v3) := by
  refine (dat1 V c).arrAt_eq_of_covers 5 _ (by decide +kernel) fun t _ y => ?_
  blk_simp
  rw [after1_5, block5]
  pointwise [both, spread]
  blk_point [iblk1, idx t]

theorem arr6 (c : Dev nD) : (dat1 V c).arrAt 6 cfg1.N = reluOnes (V c main_arg2) (V c main_call0_v3) := by
  refine (dat1 V c).arrAt_eq_of_covers 6 _ (by decide +kernel) fun t _ y => ?_
  blk_simp
  rw [after1_6, block6]
  pointwise [reluOnes, spread]
  blk_point [iblk1, idx t]
  all_goals
    rename_i h h' _
    exfalso
    blk_simp [idx t] at h h'
    omega

theorem arr7 (c : Dev nD) : (dat1 V c).arrAt 7 cfg1.N = packed (V c main_arg2) (V c main_call0_cst_2) := by
  refine (dat1 V c).arrAt_eq_of_covers 7 _ (by decide +kernel) fun t _ y => ?_
  blk_simp
  rw [after1_7, block7]
  pointwise [packed]
  blk_point [iblk1, idx t]

end Cert.KernelIdeal.Spread

end
-- ==== Proof.Region2.lean ====
/- What the third kernel call leaves: the two columns of bilinear scores of every layer, for the image and for its
   augmented copy. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Score

open Idealize.ShloMosaic Idealize.ShloMosaic.TcCoe Idealize.SL.Sem
open Idealize.ShloMosaic.Pipeline (Dat)
open Cert.KernelIdeal Cert.KernelIdeal.Gen

/-- Entry `q` of the mean over a row `g` of neighbours: the weighted sum over the sum of the weights, the latter read
    off the columns of ones. -/
def mean (g : Fin 10000 → EReal) (R : FVec Ideal S10000x64 .f32) (q : Fin 48) : EReal :=
  Ideal.div (∑ j : Fin 10000, g j * R (ix2 j ⟨q.val, by omega⟩)) (∑ j : Fin 10000, g j * R (ix2 j 48))

/-- The mean scaled by its layer's length (columns of a layer picked by `s`) and squashed. -/
def readout (g : Fin 10000 → EReal) (R : FVec Ideal S10000x64 .f32) (s : FVec Ideal S48x48 .f32) (q : Fin 48) : EReal :=
  Ideal.logistic (Ideal.div (mean g R q)
    (max (Ideal.sqrt (∑ k : Fin 48, mean g R k * mean g R k * s (ix2 k q))) (Ideal.ofBits .f32 0x2B8CBCCC#32)))

/-- Entry `q` of a row of embeddings, rectified, against the bilinear weights, layer by layer. -/
def weighed (z : Fin 48 → EReal) (w : FVec Ideal S1x8x8 .f32) (q : Fin 48) : EReal :=
  ∑ h : Fin 8, max (z ⟨q.val / 8 * 8 + h.val, by have := h.isLt; have := q.isLt; omega⟩) 0 * w (ix3 0 h ⟨q.val % 8, by omega⟩)

/-- The scores of a row: both halves of `weighed` against the readout of one half (from column `o`), summed into the
    column that `m` picks. -/
def row (o : Fin 25) (g : Fin 10000 → EReal) (R : FVec Ideal S10000x64 .f32) (z : Fin 48 → EReal) (w : FVec Ideal S1x8x8 .f32)
    (s : FVec Ideal S48x48 .f32) (m : FVec Ideal S48x6 .f32) (b : FVec Ideal S1x1 .f32) (q : Fin 6) : EReal :=
  ((∑ k : Fin 24, weighed z w ⟨k.val, by omega⟩ * readout g R s ⟨o.val + k.val, by omega⟩ * m (ix2 ⟨k.val, by omega⟩ q))
    + ∑ k : Fin 24, weighed z w ⟨24 + k.val, by omega⟩ * readout g R s ⟨o.val + k.val, by omega⟩ * m (ix2 ⟨24 + k.val, by omega⟩ q))
  + b (ix2 0 0)

theorem row_congr {o : Fin 25} {g g' : Fin 10000 → EReal} {R : FVec Ideal S10000x64 .f32} {z z' : Fin 48 → EReal}
    {w : FVec Ideal S1x8x8 .f32} {s : FVec Ideal S48x48 .f32} {m : FVec Ideal S48x6 .f32} {b : FVec Ideal S1x1 .f32} {q q' : Fin 6}
    (hg : g = g') (hz : z = z') (hq : q = q') : row o g R z w s m b q = row o g' R z' w s m b q' := by
  rw [hg, hz, hq]

theorem mean_at (x0 : Vec Ideal S400x10000 .f32) (x1 : Vec Ideal S10000x64 .f32) (r : Fin 400) (q : Fin 48) :
    k2_pay6 x0 x1 (ix2 r q) = mean (fun j => x0 (ix2 r j)) x1 q := by
  unfold k2_pay6
  pointwise [mean]

theorem readout_at (x0 : Vec Ideal S400x10000 .f32) (x1 : Vec Ideal S10000x64 .f32) (s : Vec Ideal S48x48 .f32) (r : Fin 400) (q : Fin 48) :
    k2_pay1 (k2_pay6 x0 x1) s (ix2 r q) = readout (fun j => x0 (ix2 r j)) x1 s q := by
  unfold k2_pay1
  pointwise [readout]
  simp only [mean_at]

/-- A value chosen by cases is `c` when each choice is. -/
theorem dite_of {α : Type} {p : Prop} [Decidable p] {a : p → α} {b : ¬ p → α} (c : α) (ha : ∀ h, a h = c)
    (hb : ∀ h, b h = c) : dite p a b = c := by
  by_cases h : p
  · rw [dif_pos h]; exact ha h
  · rw [dif_neg h]; exact hb h

theorem weighed_at (x2 : Vec Ideal S400x48 .f32) (x3 : Vec Ideal S1x8x8 .f32) (r : Fin 400) (q : Fin 48) :
    k2_pay5 x2 x3 (ix2 r q) = weighed (fun k => x2 (ix2 r k)) x3 q := by
  unfold k2_pay5
  pointwise [weighed]
  have hq : q.val < 48 := q.isLt
  repeat' refine dite_of _ (fun h => ?_) (fun h => ?_)
  all_goals
    refine Finset.sum_congr rfl fun f _ => Ideal.mul_congr ?_ ?_
    · refine congrArg (max · 0) ?_
      blk_ext
    · blk_ext

theorem block8 (x0 : Vec Ideal S400x10000 .f32) (x1 : Vec Ideal S10000x64 .f32) (x2 : Vec Ideal S400x48 .f32) (x3 : Vec Ideal S1x8x8 .f32)
    (x4 : Vec Ideal S48x48 .f32) (x5 x6 : Vec Ideal S48x6 .f32) (x7 : Vec Ideal S1x1 .f32) (r : Fin 400) (q : Fin 6) :
    out2_8 x0 x1 x2 x3 x4 x5 x6 x7 (ix2 r q)
      = row 0 (fun j => x0 (ix2 r j)) x1 (fun k => x2 (ix2 r k)) x3 x4 x5 x7 q := by
  unfold_out out2_8
  frame_out
  unfold k2_pay3 k2_pay2
  pointwise [row]
  simp only [weighed_at, readout_at]

theorem block9 (x0 : Vec Ideal S400x10000 .f32) (x1 : Vec Ideal S10000x64 .f32) (x2 : Vec Ideal S400x48 .f32) (x3 : Vec Ideal S1x8x8 .f32)
    (x4 : Vec Ideal S48x48 .f32) (x5 x6 : Vec Ideal S48x6 .f32) (x7 : Vec Ideal S1x1 .f32) (r : Fin 400) (q : Fin 6) :
    out2_9 x0 x1 x2 x3 x4 x5 x6 x7 (ix2 r q)
      = row 24 (fun j => x0 (ix2 r j)) x1 (fun k => x2 (ix2 r k)) x3 x4 x6 x7 q := by
  unfold_out out2_9
  frame_out
  unfold k2_pay4 k2_pay2
  pointwise [row]
  simp only [weighed_at, readout_at]

/-- The scores of every row. -/
def scores (o : Fin 25) (G : FVec Ideal S10000x10000 .f32) (R : FVec Ideal S10000x64 .f32) (Z : FVec Ideal S10000x48 .f32)
    (w : FVec Ideal S1x8x8 .f32) (s : FVec Ideal S48x48 .f32) (m : FVec Ideal S48x6 .f32) (b : FVec Ideal S1x1 .f32) :
    FVec Ideal S10000x6 .f32 := fun i =>
  row o (fun j => G (ix2 (i 0) j)) R (fun k => Z (ix2 (i 0) k)) w s m b (i 1)

variable (V : (c : Dev nD) → (b : Ref sig .tc) → Buf (Elt Ideal) ((c : Thread nD τ).loc b))

theorem idx : ∀ t : Fin cfg2.N, win2_0.index t = ![t.val, 0] ∧ win2_1.index t = ![0, 0] ∧ win2_2.index t = ![t.val, 0]
    ∧ win2_3.index t = ![0, 0, 0] ∧ win2_4.index t = ![0, 0] ∧ win2_5.index t = ![0, 0]
    ∧ win2_6.index t = ![0, 0] ∧ win2_7.index t = ![0, 0] ∧ win2_8.index t = ![t.val, 0] ∧ win2_9.index t = ![t.val, 0] :=
  (by decide +kernel : ∀ t : Fin grid2.N, _)

theorem whole1 (c : Dev nD) (t : Fin cfg2.N) : iblk2 V c 1 t = V c main_call0_v4_3 := by
  funext y
  blk_ext [iblk2, idx t]
theorem whole3 (c : Dev nD) (t : Fin cfg2.N) : iblk2 V c 3 t = V c main_arg6 := by
  funext y
  blk_ext [iblk2, idx t]
theorem whole4 (c : Dev nD) (t : Fin cfg2.N) : iblk2 V c 4 t = V c main_call0_cst := by
  funext y
  blk_ext [iblk2, idx t]
theorem whole5 (c : Dev nD) (t : Fin cfg2.N) : iblk2 V c 5 t = V c main_call0_cst_0 := by
  funext y
  blk_ext [iblk2, idx t]
theorem whole6 (c : Dev nD) (t : Fin cfg2.N) : iblk2 V c 6 t = V c main_call0_cst_1 := by
  funext y
  blk_ext [iblk2, idx t]
theorem whole7 (c : Dev nD) (t : Fin cfg2.N) : iblk2 V c 7 t = V c main_call0_v0 := by
  funext y
  blk_ext [iblk2, idx t]

theorem arr8 (c : Dev nD) : (dat2 V c).arrAt 8 cfg2.N
    = scores 0 (V c main_arg3) (V c main_call0_v4_3) (V c main_call0_v4_2) (V c main_arg6) (V c main_call0_cst)
        (V c main_call0_cst_0) (V c main_call0_v0) := by
  refine (dat2 V c).arrAt_eq_of_covers 8 _ (by decide +kernel) fun t _ y => ?_
  blk_simp
  rw [after2_8]
  idx_vars y
  rw [whole1, whole3, whole4, whole5, whole7]
  refine (block8 _ _ _ _ _ _ _ _ _ _).trans ?_
  unfold scores
  exact row_congr (funext fun j => by blk_ext [iblk2, idx t]) (funext fun k => by blk_ext [iblk2, idx t]) (Fin.ext (by blk_simp [idx t]))

theorem arr9 (c : Dev nD) : (dat2 V c).arrAt 9 cfg2.N
    = scores 24 (V c main_arg3) (V c main_call0_v4_3) (V c main_call0_v4_2) (V c main_arg6) (V c main_call0_cst)
        (V c main_call0_cst_1) (V c main_call0_v0) := by
  refine (dat2 V c).arrAt_eq_of_covers 9 _ (by decide +kernel) fun t _ y => ?_
  blk_simp
  rw [after2_9]
  idx_vars y
  rw [whole1, whole3, whole4, whole6, whole7]
  refine (block9 _ _ _ _ _ _ _ _ _ _).trans ?_
  unfold scores
  exact row_congr (funext fun j => by blk_ext [iblk2, idx t]) (funext fun k => by blk_ext [iblk2, idx t]) (Fin.ext (by blk_simp [idx t]))

end Cert.KernelIdeal.Score

end
-- ==== Proof.Run.lean ====
/- The launch of the idealized kernel: every buffer ends at the contents of the last boundary, and these read back to
   the arguments, one kernel call at a time. -/
module

public import proofs.«01_k».proof.Proof.Region0
public import proofs.«01_k».proof.Proof.Region1
public import proofs.«01_k».proof.Proof.Region2

@[expose] public section

set_option maxRecDepth 16384

noncomputable section

namespace Cert.KernelIdeal.Final

open Idealize Idealize.ShloMosaic Idealize.ShloMosaic.TcCoe Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- What device `c` is launched with at a reference. -/
abbrev arg (c : Dev nD) (b : Ref sig .tc) : Buf (Elt Ideal) ((c : Thread nD τ).loc b) := m ((c : Thread nD τ).loc b)

theorem V1_v0 (c : Dev nD) : V1 m ρ c main_call0_v0 = shapeCast S1x1 (arg m c main_arg7 : FVec Ideal S1 .f32) shapeCasts_S1_S1x1 := by
  unfold_abbrev_sides
  after_results
  try rfl
theorem V1_v1 (c : Dev nD) : V1 m ρ c main_call0_v1 = shapeCast S10000x384 (arg m c main_arg0 : FVec Ideal S10000x3x128 .f32) shapeCasts_S10000x3x128_S10000x384 := by
  unfold_abbrev_sides
  after_results
  try rfl
theorem V1_v2 (c : Dev nD) : V1 m ρ c main_call0_v2 = shapeCast S10000x384 (arg m c main_arg1 : FVec Ideal S10000x3x128 .f32) shapeCasts_S10000x3x128_S10000x384 := by
  unfold_abbrev_sides
  after_results
  try rfl
theorem V1_cst (c : Dev nD) : V1 m ρ c main_call0_cst = (fun i => Ideal.ofBits .f32 (lit0 (S48x48.rowMajor i)) : FVec Ideal S48x48 .f32) := by
  unfold_abbrev_sides
  after_results
  try rfl
theorem V1_cst_0 (c : Dev nD) : V1 m ρ c main_call0_cst_0 = (fun i => Ideal.ofBits .f32 (lit1 (S48x6.rowMajor i)) : FVec Ideal S48x6 .f32) := by
  unfold_abbrev_sides
  after_results
  try rfl
theorem V1_cst_1 (c : Dev nD) : V1 m ρ c main_call0_cst_1 = (fun i => Ideal.ofBits .f32 (lit2 (S48x6.rowMajor i)) : FVec Ideal S48x6 .f32) := by
  unfold_abbrev_sides
  after_results
  try rfl
theorem V1_cst_2 (c : Dev nD) : V1 m ρ c main_call0_cst_2 = (fun i => Ideal.ofBits .f32 (lit3 (S25x400.rowMajor i)) : FVec Ideal S25x400 .f32) := by
  unfold_abbrev_sides
  after_results
  try rfl

/-- The first call's result, from the arguments. -/
def enc (c : Dev nD) : FVec Ideal S10000x48 .f32 :=
  Encode.encoded (shapeCast S10000x384 (arg m c main_arg0 : FVec Ideal S10000x3x128 .f32) shapeCasts_S10000x3x128_S10000x384)
    (shapeCast S10000x384 (arg m c main_arg1 : FVec Ideal S10000x3x128 .f32) shapeCasts_S10000x3x128_S10000x384) (arg m c main_arg4)

/-- The constant tables as arrays. -/
def same : FVec Ideal S48x48 .f32 := fun i => Ideal.ofBits .f32 (lit0 (S48x48.rowMajor i))
def pickPos : FVec Ideal S48x6 .f32 := fun i => Ideal.ofBits .f32 (lit1 (S48x6.rowMajor i))
def pickNeg : FVec Ideal S48x6 .f32 := fun i => Ideal.ofBits .f32 (lit2 (S48x6.rowMajor i))
def packing : FVec Ideal S25x400 .f32 := fun i => Ideal.ofBits .f32 (lit3 (S25x400.rowMajor i))

/-! ### At the second call's entry -/

theorem V2_v3 (c : Dev nD) : V2 m ρ c main_call0_v3 = enc m c := by
  refine (W2_arr m ρ c 3).trans ((Encode.arr (V1 m ρ) c).trans ?_)
  rw [V1_v1, V1_v2, show V1 m ρ c main_arg4 = arg m c main_arg4 from W1_args m ρ c main_arg4 (by decide)]
  rfl
theorem V2_arg2 (c : Dev nD) : V2 m ρ c main_arg2 = arg m c main_arg2 := W2_args m ρ c main_arg2 (by decide)
theorem V2_keep (c : Dev nD) (b : Ref sig .tc) (h : ∀ w : Fin cfg0.W, Pipeline.arrRef spec0 w = b → (cfg0.win w).isOut = false) :
    V2 m ρ c b = V1 m ρ c b := W2_of m ρ c b h
theorem V2_cst_2 (c : Dev nD) : V2 m ρ c main_call0_cst_2 = packing :=
  (V2_keep m ρ c _ (by decide +kernel)).trans (V1_cst_2 m ρ c)

/-! ### At the third call's entry -/

theorem V3_score (c : Dev nD) : V3 m ρ c main_v0_0 = Spread.score (arg m c main_arg2) (enc m c) :=
  (W3_arr m ρ c 3).trans ((Spread.arr3 (V2 m ρ) c).trans (by rw [V2_v3, V2_arg2]))
theorem V3_v4_1 (c : Dev nD) : V3 m ρ c main_call0_v4_1 = Spread.scoreOnes (arg m c main_arg2) (enc m c) :=
  (W3_arr m ρ c 4).trans ((Spread.arr4 (V2 m ρ) c).trans (by rw [V2_v3, V2_arg2]))
theorem V3_v4_2 (c : Dev nD) : V3 m ρ c main_call0_v4_2 = Spread.both (arg m c main_arg2) (enc m c) :=
  (W3_arr m ρ c 5).trans ((Spread.arr5 (V2 m ρ) c).trans (by rw [V2_v3, V2_arg2]))
theorem V3_v4_3 (c : Dev nD) : V3 m ρ c main_call0_v4_3 = Spread.reluOnes (arg m c main_arg2) (enc m c) :=
  (W3_arr m ρ c 6).trans ((Spread.arr6 (V2 m ρ) c).trans (by rw [V2_v3, V2_arg2]))
theorem V3_v4_4 (c : Dev nD) : V3 m ρ c main_call0_v4_4 = Spread.packed (arg m c main_arg2) packing :=
  (W3_arr m ρ c 7).trans ((Spread.arr7 (V2 m ρ) c).trans (by rw [V2_cst_2, V2_arg2]))
theorem V3_keep (c : Dev nD) (b : Ref sig .tc) (h : ∀ w : Fin cfg0.W, Pipeline.arrRef spec0 w = b → (cfg0.win w).isOut = false)
    (h' : ∀ w : Fin cfg1.W, Pipeline.arrRef spec1 w = b → (cfg1.win w).isOut = false) : V3 m ρ c b = V1 m ρ c b :=
  (W3_of m ρ c b h').trans (W2_of m ρ c b h)
theorem V3_arg3 (c : Dev nD) : V3 m ρ c main_arg3 = arg m c main_arg3 := W3_args m ρ c main_arg3 (by decide)
theorem V3_arg6 (c : Dev nD) : V3 m ρ c main_arg6 = arg m c main_arg6 := W3_args m ρ c main_arg6 (by decide)
theorem V3_cst (c : Dev nD) : V3 m ρ c main_call0_cst = same :=
  (V3_keep m ρ c _ (by decide +kernel) (by decide +kernel)).trans (V1_cst m ρ c)
theorem V3_cst_0 (c : Dev nD) : V3 m ρ c main_call0_cst_0 = pickPos :=
  (V3_keep m ρ c _ (by decide +kernel) (by decide +kernel)).trans (V1_cst_0 m ρ c)
theorem V3_cst_1 (c : Dev nD) : V3 m ρ c main_call0_cst_1 = pickNeg :=
  (V3_keep m ρ c _ (by decide +kernel) (by decide +kernel)).trans (V1_cst_1 m ρ c)
theorem V3_v0 (c : Dev nD) : V3 m ρ c main_call0_v0 = shapeCast S1x1 (arg m c main_arg7 : FVec Ideal S1 .f32) shapeCasts_S1_S1x1 :=
  (V3_keep m ρ c _ (by decide +kernel) (by decide +kernel)).trans (V1_v0 m ρ c)

/-! ### At the fourth call's entry -/

/-- The third call's results, from the arguments: `o` the half read out, `p` the columns picked. -/
def bil (o : Fin 25) (p : FVec Ideal S48x6 .f32) (c : Dev nD) : FVec Ideal S10000x6 .f32 :=
  Score.scores o (arg m c main_arg3) (Spread.reluOnes (arg m c main_arg2) (enc m c)) (Spread.both (arg m c main_arg2) (enc m c))
    (arg m c main_arg6) same p (shapeCast S1x1 (arg m c main_arg7 : FVec Ideal S1 .f32) shapeCasts_S1_S1x1)

theorem V4_v5_0 (c : Dev nD) : V4 m ρ c main_call0_v5_0 = bil m 0 pickPos c :=
  (W4_arr m ρ c 8).trans ((Score.arr8 (V3 m ρ) c).trans (by
    rw [V3_arg3, V3_v4_3, V3_v4_2, V3_arg6, V3_cst, V3_cst_0, V3_v0]; rfl))
theorem V4_v5_1 (c : Dev nD) : V4 m ρ c main_call0_v5_1 = bil m 24 pickNeg c :=
  (W4_arr m ρ c 9).trans ((Score.arr9 (V3 m ρ) c).trans (by
    rw [V3_arg3, V3_v4_3, V3_v4_2, V3_arg6, V3_cst, V3_cst_1, V3_v0]; rfl))
theorem V4_keep (c : Dev nD) (b : Ref sig .tc) (h : ∀ w : Fin cfg2.W, Pipeline.arrRef spec2 w = b → (cfg2.win w).isOut = false) :
    V4 m ρ c b = V3 m ρ c b := W4_of m ρ c b h
theorem V4_v4_4 (c : Dev nD) : V4 m ρ c main_call0_v4_4 = Spread.packed (arg m c main_arg2) packing :=
  (V4_keep m ρ c _ (by decide +kernel)).trans (V3_v4_4 m ρ c)
theorem V4_v4_1 (c : Dev nD) : V4 m ρ c main_call0_v4_1 = Spread.scoreOnes (arg m c main_arg2) (enc m c) :=
  (V4_keep m ρ c _ (by decide +kernel)).trans (V3_v4_1 m ρ c)
theorem V4_arg5 (c : Dev nD) : V4 m ρ c main_arg5 = arg m c main_arg5 := W4_args m ρ c main_arg5 (by decide)

/-! ### The results at the end -/

theorem out_score (c : Dev nD) : W6 m ρ c (Proc.devRef .tc main_v0_0) = Spread.score (arg m c main_arg2) (enc m c) :=
  (W6_of m ρ c main_v0_0 (by decide)).trans ((W5_of m ρ c main_v0_0 (by decide +kernel)).trans
    ((V4_keep m ρ c _ (by decide +kernel)).trans (V3_score m ρ c)))

theorem out_recs (c : Dev nD) : W6 m ρ c (Proc.devRef .tc main_v0_1) = (dat3 (V4 m ρ) c).arrAt 3 cfg3.N :=
  (W6_of m ρ c main_v0_1 (by decide)).trans (W5_arr m ρ c 3)

theorem W5_v5_0 (c : Dev nD) : W5 m ρ c (Proc.devRef .tc main_call0_v5_0) = bil m 0 pickPos c :=
  (W5_of m ρ c main_call0_v5_0 (by decide +kernel)).trans (V4_v5_0 m ρ c)

theorem out_pos (c : Dev nD) : W6 m ρ c (Proc.devRef .tc main_v0_2)
    = shapeCast S10000x3x2 (bil m 0 pickPos c) shapeCasts_S10000x6_S10000x3x2 := by
  rw [← W5_v5_0 m ρ]
  unfold_abbrev_sides
  after_results
  try rfl

theorem W5_v5_1 (c : Dev nD) : W5 m ρ c (Proc.devRef .tc main_call0_v5_1) = bil m 24 pickNeg c :=
  (W5_of m ρ c main_call0_v5_1 (by decide +kernel)).trans (V4_v5_1 m ρ c)

theorem out_neg (c : Dev nD) : W6 m ρ c (Proc.devRef .tc main_v0_3)
    = shapeCast S10000x3x2 (bil m 24 pickNeg c) shapeCasts_S10000x6_S10000x3x2 := by
  rw [← W5_v5_1 m ρ]
  unfold_abbrev_sides
  after_results
  try rfl

end Cert.KernelIdeal.Final

end
-- ==== Proof.Tables.lean ====
/- The constant tables of the kernel, read at an index. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Tables

open Idealize.ShloMosaic Idealize.ShloMosaic.TcCoe Idealize.SL.Sem
open Cert.KernelIdeal Cert.KernelIdeal.Gen

theorem lit0_at : ∀ a b : Fin 48, lit0 ⟨a.val * 48 + b.val, by omega⟩ = if a.val / 8 = b.val / 8 then 0x3F800000#32 else 0#32 := by
  decide +kernel
theorem lit1_at : ∀ (a : Fin 48) (b : Fin 6), lit1 ⟨a.val * 6 + b.val, by omega⟩
    = if a.val / 8 = b.val / 2 + 3 * (b.val % 2) then 0x3F800000#32 else 0#32 := by
  decide +kernel
theorem lit2_at : ∀ (a : Fin 48) (b : Fin 6), lit2 ⟨a.val * 6 + b.val, by omega⟩
    = if a.val / 8 = b.val / 2 + 3 * (1 - b.val % 2) then 0x3F800000#32 else 0#32 := by
  decide +kernel
theorem lit3_at : ∀ (a : Fin 25) (b : Fin 400), lit3 ⟨a.val * 400 + b.val, by omega⟩
    = if b.val % 25 = a.val then BitVec.ofNat 32 ((127 + b.val / 25) * 2 ^ 23) else 0#32 := by
  decide +kernel

end Cert.KernelIdeal.Tables

end
-- ==== Proof.Math.lean ====
/- The problem's mathematics at an index: embeddings of a layer, the read-out of a node's neighbourhood and the bilinear
   score. Both programs are shown to compute these. -/
module

public import Idealize.ShloMosaic.Lib.Pointwise
public import Idealize.ShloMosaic.Lib.Pipeline.ValueKit

@[expose] public section

set_option maxRecDepth 16384

noncomputable section

namespace Cert.Encoder

open Idealize.ShloMosaic

/-- Node features: node, layer, feature. -/
abbrev Feat := FVec Ideal ⟨3, ![10000, 3, 128]⟩ .f32
/-- A matrix over the nodes. -/
abbrev Square := FVec Ideal ⟨2, ![10000, 10000]⟩ .f32
/-- Encoder weights: feature, layer, hidden. -/
abbrev EncW := FVec Ideal ⟨3, ![128, 3, 8]⟩ .f32
/-- Decoder weights: hidden, layer, feature. -/
abbrev DecW := FVec Ideal ⟨3, ![8, 3, 128]⟩ .f32
/-- Bilinear weights. -/
abbrev BilW := FVec Ideal ⟨3, ![1, 8, 8]⟩ .f32
/-- The bilinear offset. -/
abbrev Bias := FVec Ideal ⟨1, ![1]⟩ .f32

/-- Features of layer `i` through its encoder weights. -/
def hidden (x : Feat) (w : EncW) (i : Fin 3) (j : Fin 10000) (k : Fin 8) : EReal :=
  ∑ f : Fin 128, x (ix3 j i f) * w (ix3 f i k)

/-- The embedding of layer `i`: the hidden features spread along the adjacency matrix. -/
def emb (x : Feat) (A : Square) (w : EncW) (i : Fin 3) (n : Fin 10000) (k : Fin 8) : EReal :=
  ∑ j : Fin 10000, A (ix2 n j) * hidden x w i j k

/-- The mean of the rectified embeddings `z` over the neighbours of `n`. -/
def mean (G : Square) (z : Fin 10000 → Fin 8 → EReal) (n : Fin 10000) (k : Fin 8) : EReal :=
  Ideal.div (∑ j : Fin 10000, G (ix2 n j) * max (z j k) 0) (∑ j : Fin 10000, G (ix2 n j))

/-- The mean scaled to length one and squashed. -/
def readout (G : Square) (z : Fin 10000 → Fin 8 → EReal) (n : Fin 10000) (k : Fin 8) : EReal :=
  Ideal.logistic (Ideal.div (mean G z n k)
    (max (Ideal.sqrt (∑ h : Fin 8, mean G z n h * mean G z n h)) (Ideal.ofBits .f32 0x2B8CBCCC#32)))

/-- The bilinear score of a read-out `g` and an embedding `z`, rectified. -/
def score (g z : Fin 8 → EReal) (w : BilW) (b : Bias) : EReal :=
  (∑ k : Fin 8, g k * ∑ h : Fin 8, w (ix3 0 h k) * max (z h) 0) + b (ix1 0)

/-- A sum of which a table of zeros and ones keeps the `a`-th group of eight. -/
theorem sum_group (N a : ℕ) (ha : a * 8 + 8 ≤ N) (f : Fin N → EReal) :
    ∑ k : Fin N, f k * (if k.val / 8 = a then 1 else 0) = ∑ h : Fin 8, f ⟨a * 8 + h.val, by have := h.isLt; omega⟩ := by
  have e : ∀ k : Fin N, f k * (if k.val / 8 = a then (1 : EReal) else 0) = if k.val / 8 = a then f k else 0 := fun k => by
    split <;> simp
  rw [Finset.sum_congr rfl fun k _ => e k, ← Finset.sum_filter]
  refine (Finset.sum_bij (fun h _ => (⟨a * 8 + h.val, by have := h.isLt; omega⟩ : Fin N)) ?_ ?_ ?_ fun _ _ => rfl).symm
  · intro h _
    have := h.isLt
    simp only [Finset.mem_filter, Finset.mem_univ, true_and]
    omega
  · intro h _ h' _ e
    have := Fin.val_eq_of_eq e
    exact Fin.ext (by simp only at this; omega)
  · intro k hk
    simp only [Finset.mem_filter, Finset.mem_univ, true_and] at hk
    exact ⟨⟨k.val - a * 8, by omega⟩, Finset.mem_univ _, Fin.ext (by simp only; omega)⟩

/-- A sum of which a table of zeros and ones keeps nothing. -/
theorem sum_none (N a : ℕ) (ha : N ≤ a * 8) (f : Fin N → EReal) :
    ∑ k : Fin N, f k * (if k.val / 8 = a then 1 else 0) = 0 :=
  Finset.sum_eq_zero fun k _ => by
    have := k.isLt
    rw [if_neg (by omega), mul_zero]

end Cert.Encoder

end
-- ==== Proof.KernelMath.lean ====
/- The kernel's scores and bilinear scores, read at an index, are the problem's mathematics. -/
module

public import proofs.«01_k».proof.Proof.Run
public import proofs.«01_k».proof.Proof.Tables
public import proofs.«01_k».proof.Proof.Math

@[expose] public section

set_option maxRecDepth 16384

noncomputable section

namespace Cert.KernelIdeal.Final

open Idealize.ShloMosaic Idealize.ShloMosaic.TcCoe Idealize.SL.Sem
open Cert.KernelIdeal Cert.KernelIdeal.Gen
open Cert.Encoder (Feat Square EncW DecW BilW Bias)

/-! ### The tables -/

theorem zero_one (p : Prop) [Decidable p] :
    Ideal.ofBits .f32 (if p then 0x3F800000#32 else 0#32) = if p then (1 : EReal) else 0 := by
  split
  · exact Ideal.ofBits_one_f32
  · exact Ideal.ofBits_zero_f32

theorem same_at (a b : Fin 48) : same (ix2 a b) = if a.val / 8 = b.val / 8 then 1 else 0 := by
  rw [← zero_one, ← Tables.lit0_at a b]
  exact congrArg (fun j => Ideal.ofBits .f32 (lit0 j)) (Fin.ext (by rw [Shape.rowMajor_val_two]; rfl))

theorem pickPos_at (a : Fin 48) (b : Fin 6) : pickPos (ix2 a b) = if a.val / 8 = b.val / 2 + 3 * (b.val % 2) then 1 else 0 := by
  rw [← zero_one, ← Tables.lit1_at a b]
  exact congrArg (fun j => Ideal.ofBits .f32 (lit1 j)) (Fin.ext (by rw [Shape.rowMajor_val_two]; rfl))

theorem pickNeg_at (a : Fin 48) (b : Fin 6) : pickNeg (ix2 a b) = if a.val / 8 = b.val / 2 + 3 * (1 - b.val % 2) then 1 else 0 := by
  rw [← zero_one, ← Tables.lit2_at a b]
  exact congrArg (fun j => Ideal.ofBits .f32 (lit2 j)) (Fin.ext (by rw [Shape.rowMajor_val_two]; rfl))

/-! ### The embeddings -/

variable (x0 x1 : Feat) (A G : Square) (w : EncW) (bw : BilW) (bb : Bias)

/-- The encoded features, from the arguments. -/
abbrev encd : FVec Ideal S10000x48 .f32 :=
  Encode.encoded (shapeCast S10000x384 x0 shapeCasts_S10000x3x128_S10000x384)
    (shapeCast S10000x384 x1 shapeCasts_S10000x3x128_S10000x384) w

theorem flat_at (x : Feat) (j : Fin 10000) (i : Fin 3) (f : Fin 128) :
    shapeCast S10000x384 x shapeCasts_S10000x3x128_S10000x384 (ix2 j ⟨i.val * 128 + f.val, by omega⟩) = x (ix3 j i f) := by
  pointwise []

/-- Column `k` of layer `i` in half `h` (the input, the augmented input) of the 48 columns. -/
def col (h : Fin 2) (i : Fin 3) (k : Fin 8) : Fin 48 := ⟨h.val * 24 + i.val * 8 + k.val, by omega⟩

/-- The embeddings of both inputs. -/
def emb2 (h : Fin 2) (i : Fin 3) (n : Fin 10000) (k : Fin 8) : EReal :=
  Encoder.emb (if h = 0 then x0 else x1) A w i n k

theorem encoded_at (h : Fin 2) (i : Fin 3) (j : Fin 10000) (k : Fin 8) :
    encd x0 x1 w (ix2 j (col h i k)) = Encoder.hidden (if h = 0 then x0 else x1) w i j k := by
  have hi := i.isLt
  have hk := k.isLt
  have e1 : (col h i k).val / 8 % 3 = i.val := by show (h.val * 24 + i.val * 8 + k.val) / 8 % 3 = _; omega
  have e2 : (col h i k).val % 8 = k.val := by show (h.val * 24 + i.val * 8 + k.val) % 8 = _; omega
  have e3 : (⟨(col h i k).val / 8 % 3, by omega⟩ : Fin 3) = i := Fin.ext e1
  have e4 : (⟨(col h i k).val % 8, by omega⟩ : Fin 8) = k := Fin.ext e2
  unfold Encoder.hidden
  refine Finset.sum_congr rfl fun f _ => Ideal.mul_congr ?_ ?_
  · have e5 : (⟨(col h i k).val / 8 % 3 * 128 + f.val, by omega⟩ : Fin 384) = ⟨i.val * 128 + f.val, by omega⟩ :=
      Fin.ext (by simp only [e1])
    show (if (col h i k).val < 24 then shapeCast S10000x384 x0 _ (ix2 j ⟨(col h i k).val / 8 % 3 * 128 + f.val, _⟩)
      else shapeCast S10000x384 x1 _ (ix2 j ⟨(col h i k).val / 8 % 3 * 128 + f.val, _⟩)) = _
    rw [e5, flat_at, flat_at]
    have : (col h i k).val = h.val * 24 + i.val * 8 + k.val := rfl
    by_cases h0 : h = 0
    · subst h0
      rw [if_pos (by rw [this]; simp only [Fin.val_zero]; omega), if_pos rfl]
    · have : h.val ≠ 0 := fun e => h0 (Fin.ext e)
      rw [if_neg (by omega), if_neg h0]
  · show w (ix3 f ⟨(col h i k).val / 8 % 3, _⟩ ⟨(col h i k).val % 8, _⟩) = _
    rw [e3, e4]

theorem spread_at (h : Fin 2) (i : Fin 3) (n : Fin 10000) (k : Fin 8) :
    Spread.spread A (encd x0 x1 w) n (col h i k) = emb2 x0 x1 A w h i n k := by
  unfold Spread.spread emb2 Encoder.emb
  exact Finset.sum_congr rfl fun j _ => Ideal.mul_congr rfl (encoded_at x0 x1 w h i j k)

theorem reluOnes_at (h : Fin 2) (i : Fin 3) (j : Fin 10000) (k : Fin 8) :
    Spread.reluOnes A (encd x0 x1 w) (ix2 j ⟨(col h i k).val, by omega⟩) = max (emb2 x0 x1 A w h i j k) 0 := by
  have : (col h i k).val < 48 := (col h i k).isLt
  rw [← spread_at]
  exact dif_pos this

theorem reluOnes_one (j : Fin 10000) : Spread.reluOnes A (encd x0 x1 w) (ix2 j 48) = 1 := dif_neg (lt_irrefl 48)

/-! ### The read-out and the scores -/

theorem mean_col (h : Fin 2) (i : Fin 3) (n : Fin 10000) (k : Fin 8) :
    Score.mean (fun j => G (ix2 n j)) (Spread.reluOnes A (encd x0 x1 w)) (col h i k)
      = Encoder.mean G (emb2 x0 x1 A w h i) n k := by
  unfold Score.mean Encoder.mean
  simp only [reluOnes_at, reluOnes_one, mul_one]

theorem readout_col (h : Fin 2) (i : Fin 3) (n : Fin 10000) (k : Fin 8) :
    Score.readout (fun j => G (ix2 n j)) (Spread.reluOnes A (encd x0 x1 w)) same (col h i k)
      = Encoder.readout G (emb2 x0 x1 A w h i) n k := by
  unfold Score.readout Encoder.readout
  have e : (col h i k).val / 8 = h.val * 3 + i.val := by show (h.val * 24 + i.val * 8 + k.val) / 8 = _; omega
  simp only [same_at, e]
  rw [Encoder.sum_group 48 (h.val * 3 + i.val) (by omega)]
  have e' : ∀ l : Fin 8, (⟨(h.val * 3 + i.val) * 8 + l.val, by omega⟩ : Fin 48) = col h i l := fun l =>
    Fin.ext (by show (h.val * 3 + i.val) * 8 + l.val = h.val * 24 + i.val * 8 + l.val; omega)
  simp only [e', mean_col]

theorem weighed_col (z : Fin 48 → EReal) (h : Fin 2) (i : Fin 3) (k : Fin 8) :
    Score.weighed z bw (col h i k) = ∑ l : Fin 8, bw (ix3 0 l k) * max (z (col h i l)) 0 := by
  unfold Score.weighed
  refine Finset.sum_congr rfl fun l _ => ?_
  rw [mul_comm]
  refine Ideal.mul_congr ?_ (congrArg (max · 0) (congrArg z (Fin.ext ?_)))
  · exact congrArg bw (congrArg (ix3 0 l) (Fin.ext (by show (h.val * 24 + i.val * 8 + k.val) % 8 = _; omega)))
  · show (h.val * 24 + i.val * 8 + k.val) / 8 * 8 + l.val = h.val * 24 + i.val * 8 + l.val
    omega

/-- A row of scores whose table `m` picks layer `i` of half `e` for column `q`, against the read-outs of half `O`. -/
theorem row_pick (O e : Fin 2) (i : Fin 3) (o : Fin 25) (ho : o.val = O.val * 24) (n : Fin 10000) (q : Fin 6)
    (m : FVec Ideal S48x6 .f32) (hm : ∀ a : Fin 48, m (ix2 a q) = if a.val / 8 = i.val + 3 * e.val then 1 else 0) :
    Score.row o (fun j => G (ix2 n j)) (Spread.reluOnes A (encd x0 x1 w)) (fun k => Spread.both A (encd x0 x1 w) (ix2 n k)) bw
        same m (shapeCast S1x1 bb shapeCasts_S1_S1x1) q
      = Encoder.score (Encoder.readout G (emb2 x0 x1 A w O i) n) (emb2 x0 x1 A w e i n) bw bb := by
  have hb : shapeCast S1x1 bb shapeCasts_S1_S1x1 (ix2 0 0) = bb (ix1 0) := by pointwise []
  have hi := i.isLt
  have hO := O.isLt
  have hg : ∀ k : Fin 8, (⟨o.val + (i.val * 8 + k.val), by omega⟩ : Fin 48) = col O i k := fun k =>
    Fin.ext (by show o.val + (i.val * 8 + k.val) = O.val * 24 + i.val * 8 + k.val; omega)
  have hw : ∀ k : Fin 8, Score.weighed (fun k => Spread.both A (encd x0 x1 w) (ix2 n k)) bw (col e i k)
      = ∑ l : Fin 8, bw (ix3 0 l k) * max (emb2 x0 x1 A w e i n l) 0 := fun k => by
    rw [weighed_col]
    exact Finset.sum_congr rfl fun l _ => Ideal.mul_congr rfl (congrArg (max · 0) (spread_at x0 x1 A w e i n l))
  unfold Score.row Encoder.score
  rw [hb]
  refine Ideal.add_congr ?_ rfl
  have pick : ∀ f : Fin 8 → EReal, (∀ k, f k = Score.weighed (fun k => Spread.both A (encd x0 x1 w) (ix2 n k)) bw (col e i k)
      * Score.readout (fun j => G (ix2 n j)) (Spread.reluOnes A (encd x0 x1 w)) same (col O i k)) →
      ∑ k, f k = ∑ k : Fin 8, Encoder.readout G (emb2 x0 x1 A w O i) n k
        * ∑ l : Fin 8, bw (ix3 0 l k) * max (emb2 x0 x1 A w e i n l) 0 := fun f hf =>
    Finset.sum_congr rfl fun k _ => by rw [hf, hw, readout_col, mul_comm]
  simp only [hm]
  have h24 : ∀ k : ℕ, (24 + k) / 8 = k / 8 + 3 := fun k => by omega
  simp only [h24]
  have hz : ∀ k : Fin 24, ¬ k.val / 8 + 3 = i.val := fun k => by omega
  by_cases he : e = 0
  · subst he
    simp only [Fin.val_zero, mul_zero, add_zero]
    rw [Encoder.sum_group 24 i.val (by omega), Finset.sum_eq_zero (fun k _ => mul_eq_zero_of_right _ (if_neg (hz k))), add_zero]
    refine pick _ fun k => Ideal.mul_congr ?_ ?_
    · exact congrArg _ (Fin.ext (by show i.val * 8 + k.val = 0 * 24 + i.val * 8 + k.val; omega))
    · rw [← hg]
  · have h1 : e = 1 := by omega
    subst h1
    simp only [Fin.val_one, mul_one, Nat.add_right_cancel_iff]
    rw [Encoder.sum_none 24 (i.val + 3) (by omega), Encoder.sum_group 24 i.val (by omega), zero_add]
    refine pick _ fun k => Ideal.mul_congr ?_ ?_
    · exact congrArg _ (Fin.ext (by show 24 + (i.val * 8 + k.val) = 1 * 24 + i.val * 8 + k.val; omega))
    · rw [← hg]

/-! ### The results -/

variable (mem : (ℓ : Loc nD τ sig) → Buf (Elt Ideal) ℓ) (c : Dev nD)

theorem pair_at (y : FVec Ideal S10000x6 .f32) (n : Fin 10000) (i : Fin 3) (s : Fin 2) :
    shapeCast S10000x3x2 y shapeCasts_S10000x6_S10000x3x2 (ix3 n i s) = y (ix2 n ⟨i.val * 2 + s.val, by omega⟩) := by
  pointwise []

theorem score_at (n : Fin 10000) (i : Fin 3) (k : Fin 8) :
    Spread.score (arg mem c main_arg2) (enc mem c) (ix2 n ⟨i.val * 8 + k.val, by omega⟩)
      = Encoder.emb (arg mem c main_arg0) (arg mem c main_arg2) (arg mem c main_arg4) i n k := by
  refine Eq.trans ?_ (spread_at (arg mem c main_arg0) (arg mem c main_arg1) (arg mem c main_arg2) (arg mem c main_arg4) 0 i n k)
  exact congrArg (Spread.spread _ _ n) (Fin.ext (by show i.val * 8 + k.val = 0 * 24 + i.val * 8 + k.val; omega))

theorem pos_at (n : Fin 10000) (i : Fin 3) (s : Fin 2) :
    shapeCast S10000x3x2 (bil mem 0 pickPos c) shapeCasts_S10000x6_S10000x3x2 (ix3 n i s)
      = Encoder.score (Encoder.readout (arg mem c main_arg3)
          (emb2 (arg mem c main_arg0) (arg mem c main_arg1) (arg mem c main_arg2) (arg mem c main_arg4) 0 i) n)
        (emb2 (arg mem c main_arg0) (arg mem c main_arg1) (arg mem c main_arg2) (arg mem c main_arg4) s i n)
        (arg mem c main_arg6) (arg mem c main_arg7) := by
  rw [pair_at]
  refine row_pick (arg mem c main_arg0) (arg mem c main_arg1) (arg mem c main_arg2) (arg mem c main_arg3) (arg mem c main_arg4)
    (arg mem c main_arg6) (arg mem c main_arg7) 0 s i 0 rfl n _ pickPos fun a => ?_
  refine (pickPos_at a _).trans ?_
  refine if_congr (iff_of_eq (congrArg _ ?_)) rfl rfl
  show (i.val * 2 + s.val) / 2 + 3 * ((i.val * 2 + s.val) % 2) = _
  omega

theorem neg_at (n : Fin 10000) (i : Fin 3) (s s' : Fin 2) (hs : s'.val = 1 - s.val) :
    shapeCast S10000x3x2 (bil mem 24 pickNeg c) shapeCasts_S10000x6_S10000x3x2 (ix3 n i s)
      = Encoder.score (Encoder.readout (arg mem c main_arg3)
          (emb2 (arg mem c main_arg0) (arg mem c main_arg1) (arg mem c main_arg2) (arg mem c main_arg4) 1 i) n)
        (emb2 (arg mem c main_arg0) (arg mem c main_arg1) (arg mem c main_arg2) (arg mem c main_arg4) s' i n)
        (arg mem c main_arg6) (arg mem c main_arg7) := by
  rw [pair_at]
  refine row_pick (arg mem c main_arg0) (arg mem c main_arg1) (arg mem c main_arg2) (arg mem c main_arg3) (arg mem c main_arg4)
    (arg mem c main_arg6) (arg mem c main_arg7) 1 s' i 24 rfl n _ pickNeg fun a => ?_
  refine (pickNeg_at a _).trans ?_
  refine if_congr (iff_of_eq (congrArg _ ?_)) rfl rfl
  show (i.val * 2 + s.val) / 2 + 3 * (1 - (i.val * 2 + s.val) % 2) = _
  omega

end Cert.KernelIdeal.Final

end
-- ==== Proof.Launched.lean ====
/- The launch of the idealized kernel, read at every buffer: each ends at the contents of the last boundary. -/
module

public import proofs.«01_k».proof.Proof.Gen.KernelIdeal.Frame

@[expose] public section

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every unscoped buffer of every device ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.KernelIdeal.Launched

end
-- ==== Proof.Reference.lean ====
/- The reference, read at an index: each layer is one composition of the same operations, so one lemma per operation
   serves all three. -/
module

public import proofs.«01_k».proof.Proof.Gen.ReferenceIdeal.Read
public import proofs.«01_k».proof.Proof.Math

@[expose] public section

set_option maxRecDepth 16384

noncomputable section

namespace Cert.ReferenceIdeal.Layers

open Cert.ReferenceIdeal Cert.ReferenceIdeal.Gen Cert.ReferenceIdeal.Read Idealize.ShloMosaic Idealize.ShloMosaic.TcCoe
open Cert.Encoder (Feat Square EncW DecW BilW Bias)

/-- Layer `i` of the features, and of the weights. -/
def feat (x : Feat) (i : Fin 3) : FVec Ideal S10000x128 .f32 := fun j => x (ix3 (j 0) i (j 1))
def encW (w : EncW) (i : Fin 3) : FVec Ideal S128x8 .f32 := fun j => w (ix3 (j 0) i (j 1))
def decW (w : DecW) (i : Fin 3) : FVec Ideal S8x128 .f32 := fun j => w (ix3 (j 0) i (j 1))

/-! ### The operations of a layer -/

def embT (x : FVec Ideal S10000x128 .f32) (A : Square) (w : FVec Ideal S128x8 .f32) : FVec Ideal S10000x8 .f32 :=
  Host.dotGeneral dot_S10000x10000_S10000x8_S10000x8_1_0_0_1_n_n none A
    (Host.dotGeneral dot_S10000x128_S128x8_S10000x8_1_0_0_1_n_n none x w)

def reluT (z : FVec Ideal S10000x8 .f32) : FVec Ideal S10000x8 .f32 :=
  maximumf z (broadcastInDim S10000x8 ![] bcast_S_S10000x8 (constant S_ .f32 0x00000000#32))

def meanT (G : Square) (r : FVec Ideal S10000x8 .f32) : FVec Ideal S10000x8 .f32 :=
  Host.divf (Host.dotGeneral dot_S10000x10000_S10000x8_S10000x8_1_0_0_1_n_n none G r)
    (broadcastInDim S10000x8 ![0, 1] bcast_S10000x1_S10000x8_0_1 (broadcastInDim S10000x1 ![0] bcast_S10000_S10000x1_0
      (Host.reduceAdd G (constant S_ .f32 0x00000000#32) reducesTo_S10000x10000_S10000_d1 h_S_)))

def squashT (e : FVec Ideal S10000x8 .f32) : FVec Ideal S10000x8 .f32 :=
  Host.divf (broadcastInDim S10000x8 ![] bcast_S_S10000x8 (constant S_ .f32 0x3F800000#32))
    (addf (broadcastInDim S10000x8 ![] bcast_S_S10000x8 (constant S_ .f32 0x3F800000#32))
      (Host.exp (Host.negf (Host.divf e (broadcastInDim S10000x8 ![0, 1] bcast_S10000x1_S10000x8_0_1
        (maximumf (Host.sqrt (broadcastInDim S10000x1 ![0] bcast_S10000_S10000x1_0
            (Host.reduceAdd (mulf e e) (constant S_ .f32 0x00000000#32) reducesTo_S10000x8_S10000_d1 h_S_)))
          (broadcastInDim S10000x1 ![] bcast_S_S10000x1 (constant S_ .f32 0x2B8CBCCC#32))))))))

def scoreT (g r : FVec Ideal S10000x8 .f32) (w : BilW) (b : Bias) : FVec Ideal S10000x1 .f32 :=
  addf (Host.dotGeneral dot_S10000x8_S1x8x10000_S10000x1_1_1_n_0_0_2 none g
      (Host.dotGeneral dot_S1x8x8_S10000x8_S1x8x10000_1_1_02_0_n_n none w r))
    (broadcastInDim S10000x1 ![0, 1] bcast_S1x1_S10000x1_0_1 (broadcastInDim S1x1 ![1] bcast_S1_S1x1_1 b))

def recT (z : FVec Ideal S10000x8 .f32) (A : Square) (w : FVec Ideal S8x128 .f32) : FVec Ideal S10000x128 .f32 :=
  Host.dotGeneral dot_S10000x10000_S10000x128_S10000x128_1_0_0_1_n_n none A
    (Host.dotGeneral dot_S10000x8_S8x128_S10000x128_1_0_0_1_n_n none z w)

/-! ### Each at an index -/

theorem embT_at (x : FVec Ideal S10000x128 .f32) (A : Square) (w : FVec Ideal S128x8 .f32) (n : Fin 10000) (k : Fin 8) :
    embT x A w (ix2 n k) = ∑ j : Fin 10000, A (ix2 n j) * ∑ f : Fin 128, x (ix2 j f) * w (ix2 f k) := by
  pointwise [embT]

theorem reluT_at (z : FVec Ideal S10000x8 .f32) (n : Fin 10000) (k : Fin 8) : reluT z (ix2 n k) = max (z (ix2 n k)) 0 := by
  pointwise [reluT]

theorem meanT_at (G : Square) (r : FVec Ideal S10000x8 .f32) (n : Fin 10000) (k : Fin 8) :
    meanT G r (ix2 n k) = Ideal.div (∑ j : Fin 10000, G (ix2 n j) * r (ix2 j k)) (∑ j : Fin 10000, G (ix2 n j)) := by
  pointwise [meanT]

theorem squashT_at (e : FVec Ideal S10000x8 .f32) (n : Fin 10000) (k : Fin 8) :
    squashT e (ix2 n k) = Ideal.logistic (Ideal.div (e (ix2 n k))
      (max (Ideal.sqrt (∑ h : Fin 8, e (ix2 n h) * e (ix2 n h))) (Ideal.ofBits .f32 0x2B8CBCCC#32))) := by
  pointwise [squashT]
  try rfl

theorem scoreT_at (g r : FVec Ideal S10000x8 .f32) (w : BilW) (b : Bias) (n : Fin 10000) :
    scoreT g r w b (ix2 n 0) = (∑ k : Fin 8, g (ix2 n k) * ∑ h : Fin 8, w (ix3 0 h k) * r (ix2 n h)) + b (ix1 0) := by
  pointwise [scoreT]

theorem recT_at (z : FVec Ideal S10000x8 .f32) (A : Square) (w : FVec Ideal S8x128 .f32) (n : Fin 10000) (f : Fin 128) :
    recT z A w (ix2 n f) = ∑ j : Fin 10000, A (ix2 n j) * ∑ k : Fin 8, z (ix2 j k) * w (ix2 k f) := by
  pointwise [recT]

/-! ### The results stack the layers -/

/-- The two scores of a node side by side. -/
def pairT (a b : FVec Ideal S10000x1 .f32) : FVec Ideal S10000x2 .f32 :=
  concatenate S10000x2 1 [⟨S10000x1, a⟩, ⟨S10000x1, b⟩] concatenates_S10000x1_S10000x1_S10000x2_d1

def stackPairs (p : Fin 3 → FVec Ideal S10000x2 .f32) : FVec Ideal S10000x3x2 .f32 :=
  concatenate S10000x3x2 1 [⟨S10000x1x2, broadcastInDim S10000x1x2 ![0, 2] bcast_S10000x2_S10000x1x2_0_2 (p 0)⟩,
    ⟨S10000x1x2, broadcastInDim S10000x1x2 ![0, 2] bcast_S10000x2_S10000x1x2_0_2 (p 1)⟩,
    ⟨S10000x1x2, broadcastInDim S10000x1x2 ![0, 2] bcast_S10000x2_S10000x1x2_0_2 (p 2)⟩]
    concatenates_S10000x1x2_S10000x1x2_S10000x1x2_S10000x3x2_d1

def stackRecs (p : Fin 3 → FVec Ideal S10000x128 .f32) : FVec Ideal S10000x3x128 .f32 :=
  concatenate S10000x3x128 1 [⟨S10000x1x128, broadcastInDim S10000x1x128 ![0, 2] bcast_S10000x128_S10000x1x128_0_2 (p 0)⟩,
    ⟨S10000x1x128, broadcastInDim S10000x1x128 ![0, 2] bcast_S10000x128_S10000x1x128_0_2 (p 1)⟩,
    ⟨S10000x1x128, broadcastInDim S10000x1x128 ![0, 2] bcast_S10000x128_S10000x1x128_0_2 (p 2)⟩]
    concatenates_S10000x1x128_S10000x1x128_S10000x1x128_S10000x3x128_d1

def stackEmbs (p : Fin 3 → FVec Ideal S10000x8 .f32) : FVec Ideal S10000x24 .f32 :=
  shapeCast _ (concatenate S10000x3x8 1 [⟨S10000x1x8, broadcastInDim S10000x1x8 ![0, 2] bcast_S10000x8_S10000x1x8_0_2 (p 0)⟩,
    ⟨S10000x1x8, broadcastInDim S10000x1x8 ![0, 2] bcast_S10000x8_S10000x1x8_0_2 (p 1)⟩,
    ⟨S10000x1x8, broadcastInDim S10000x1x8 ![0, 2] bcast_S10000x8_S10000x1x8_0_2 (p 2)⟩]
    concatenates_S10000x1x8_S10000x1x8_S10000x1x8_S10000x3x8_d1) shapeCasts_S10000x3x8_S10000x24

theorem pairT_left (a b : FVec Ideal S10000x1 .f32) (n : Fin 10000) : pairT a b (ix2 n 0) = a (ix2 n 0) := by
  pointwise [pairT]

theorem pairT_right (a b : FVec Ideal S10000x1 .f32) (n : Fin 10000) : pairT a b (ix2 n 1) = b (ix2 n 0) := by
  pointwise [pairT]

theorem stackPairs_at (p : Fin 3 → FVec Ideal S10000x2 .f32) (n : Fin 10000) (i : Fin 3) (s : Fin 2) :
    stackPairs p (ix3 n i s) = p i (ix2 n s) := by
  fin_cases i <;> pointwise [stackPairs]

theorem stackRecs_at (p : Fin 3 → FVec Ideal S10000x128 .f32) (n : Fin 10000) (i : Fin 3) (f : Fin 128) :
    stackRecs p (ix3 n i f) = p i (ix2 n f) := by
  fin_cases i <;> pointwise [stackRecs]

theorem stackEmbs_at (p : Fin 3 → FVec Ideal S10000x8 .f32) (n : Fin 10000) (i : Fin 3) (k : Fin 8) :
    stackEmbs p (ix2 n ⟨i.val * 8 + k.val, by omega⟩) = p i (ix2 n k) := by
  have hk := k.isLt
  fin_cases i <;> pointwise [stackEmbs]
  · rw [dif_pos (by omega)]
    exact congrArg (p 0) (congrArg (ix2 n) (Fin.ext (Nat.mod_eq_of_lt hk)))
  · rw [dif_neg (by omega), dif_pos (by omega)]
  · rw [dif_neg (by omega), dif_neg (by omega)]

/-! ### The reference is these operations -/

section Reference
variable (x0 x1 : Feat) (x2 x3 : Square) (x4 : EncW) (x5 : DecW) (x6 : BilW) (x7 : Bias)

theorem feat_slices : val_main_v1 (F := Ideal) x0 = feat x0 0 ∧ val_main_v79 (F := Ideal) x0 = feat x0 1
    ∧ val_main_v157 (F := Ideal) x0 = feat x0 2 := by
  refine ⟨?_, ?_, ?_⟩ <;> funext j <;> idx_vars j
  · pointwise [val_main_v1, val_main_v0, feat]
  · pointwise [val_main_v79, val_main_v78, feat]
  · pointwise [val_main_v157, val_main_v156, feat]

theorem encW_slices : val_main_v5 (F := Ideal) x4 = encW x4 0 ∧ val_main_v83 (F := Ideal) x4 = encW x4 1
    ∧ val_main_v161 (F := Ideal) x4 = encW x4 2 := by
  refine ⟨?_, ?_, ?_⟩ <;> funext j <;> idx_vars j
  · pointwise [val_main_v5, val_main_v4, encW]
  · pointwise [val_main_v83, val_main_v82, encW]
  · pointwise [val_main_v161, val_main_v160, encW]

theorem decW_slices : val_main_v9 (F := Ideal) x5 = decW x5 0 ∧ val_main_v87 (F := Ideal) x5 = decW x5 1
    ∧ val_main_v165 (F := Ideal) x5 = decW x5 2 := by
  refine ⟨?_, ?_, ?_⟩ <;> funext j <;> idx_vars j
  · pointwise [val_main_v9, val_main_v8, decW]
  · pointwise [val_main_v87, val_main_v86, decW]
  · pointwise [val_main_v165, val_main_v164, decW]

/-- The embedding of a layer as the reference computes it. -/
def zT (x : Feat) (A : Square) (w : EncW) (i : Fin 3) : FVec Ideal S10000x8 .f32 := embT (feat x i) A (encW w i)

/-- The read-out of an embedding as the reference computes it. -/
def gT (G : Square) (z : FVec Ideal S10000x8 .f32) : FVec Ideal S10000x8 .f32 := squashT (meanT G (reluT z))

/-- The scores of one read-out against two embeddings. -/
def scoresT (G : Square) (z y y' : FVec Ideal S10000x8 .f32) (w : BilW) (b : Bias) : FVec Ideal S10000x2 .f32 :=
  pairT (scoreT (gT G z) (reluT y) w b) (scoreT (gT G z) (reluT y') w b)

theorem zT_slices : val_main_v7 (F := Ideal) x0 x2 x4 = zT x0 x2 x4 0 ∧ val_main_v85 (F := Ideal) x0 x2 x4 = zT x0 x2 x4 1
    ∧ val_main_v163 (F := Ideal) x0 x2 x4 = zT x0 x2 x4 2 := by
  unfold zT
  rw [← (feat_slices x0).1, ← (feat_slices x0).2.1, ← (feat_slices x0).2.2, ← (encW_slices x4).1, ← (encW_slices x4).2.1,
    ← (encW_slices x4).2.2]
  exact ⟨rfl, rfl, rfl⟩

theorem zT_slices' : val_main_v15 (F := Ideal) x1 x2 x4 = zT x1 x2 x4 0 ∧ val_main_v93 (F := Ideal) x1 x2 x4 = zT x1 x2 x4 1
    ∧ val_main_v171 (F := Ideal) x1 x2 x4 = zT x1 x2 x4 2 := by
  unfold zT
  rw [← (feat_slices x1).1, ← (feat_slices x1).2.1, ← (feat_slices x1).2.2, ← (encW_slices x4).1, ← (encW_slices x4).2.1,
    ← (encW_slices x4).2.2]
  exact ⟨rfl, rfl, rfl⟩

theorem embs_eq : val_main_v238 (F := Ideal) x0 x2 x4 = stackEmbs (zT x0 x2 x4) := by
  unfold stackEmbs
  rw [← (zT_slices x0 x2 x4).1, ← (zT_slices x0 x2 x4).2.1, ← (zT_slices x0 x2 x4).2.2]
  rfl

theorem recs_eq : val_main_v242 (F := Ideal) x0 x2 x4 x5 = stackRecs fun i => recT (zT x0 x2 x4 i) x2 (decW x5 i) := by
  unfold stackRecs
  beta_reduce
  rw [← (zT_slices x0 x2 x4).1, ← (zT_slices x0 x2 x4).2.1, ← (zT_slices x0 x2 x4).2.2, ← (decW_slices x5).1,
    ← (decW_slices x5).2.1, ← (decW_slices x5).2.2]
  rfl

theorem pos_eq : val_main_v246 (F := Ideal) x0 x1 x2 x3 x4 x6 x7
    = stackPairs fun i => scoresT x3 (zT x0 x2 x4 i) (zT x0 x2 x4 i) (zT x1 x2 x4 i) x6 x7 := by
  unfold stackPairs
  beta_reduce
  rw [← (zT_slices x0 x2 x4).1, ← (zT_slices x0 x2 x4).2.1, ← (zT_slices x0 x2 x4).2.2, ← (zT_slices' x1 x2 x4).1,
    ← (zT_slices' x1 x2 x4).2.1, ← (zT_slices' x1 x2 x4).2.2]
  rfl

theorem neg_eq : val_main_v250 (F := Ideal) x0 x1 x2 x3 x4 x6 x7
    = stackPairs fun i => scoresT x3 (zT x1 x2 x4 i) (zT x1 x2 x4 i) (zT x0 x2 x4 i) x6 x7 := by
  unfold stackPairs
  beta_reduce
  rw [← (zT_slices x0 x2 x4).1, ← (zT_slices x0 x2 x4).2.1, ← (zT_slices x0 x2 x4).2.2, ← (zT_slices' x1 x2 x4).1,
    ← (zT_slices' x1 x2 x4).2.1, ← (zT_slices' x1 x2 x4).2.2]
  rfl

end Reference

/-! ### The layers compute the problem's mathematics -/

theorem zT_at (x : Feat) (A : Square) (w : EncW) (i : Fin 3) (n : Fin 10000) (k : Fin 8) :
    zT x A w i (ix2 n k) = Encoder.emb x A w i n k := embT_at _ _ _ n k

theorem gT_at (G : Square) (z : FVec Ideal S10000x8 .f32) (n : Fin 10000) (k : Fin 8) :
    gT G z (ix2 n k) = Encoder.readout G (fun j h => z (ix2 j h)) n k := by
  simp only [gT, squashT_at, meanT_at, reluT_at, Encoder.readout, Encoder.mean]

theorem scoreT_gT (G : Square) (z y : FVec Ideal S10000x8 .f32) (w : BilW) (b : Bias) (n : Fin 10000) :
    scoreT (gT G z) (reluT y) w b (ix2 n 0)
      = Encoder.score (Encoder.readout G (fun j h => z (ix2 j h)) n) (fun h => y (ix2 n h)) w b := by
  simp only [scoreT_at, gT_at, reluT_at, Encoder.score]

end Cert.ReferenceIdeal.Layers

end
-- ==== Proof.Matching.lean ====
/- Both programs end with the same scores and bilinear scores, whatever the arguments. -/
module

public import proofs.«01_k».proof.Proof.KernelMath
public import proofs.«01_k».proof.Proof.Launched
public import proofs.«01_k».proof.Proof.Reference
public import proofs.«01_k».proof.Proof.Gen.On_all_but_recs
public import proofs.«01_k».proof.Defs

@[expose] public section

set_option maxRecDepth 16384

noncomputable section

namespace Cert.Matching

open Idealize.ShloMosaic Idealize.ShloMosaic.TcCoe Idealize.SL.Sem Idealize.ShloMosaic.StableHlo
open Cert.Encoder (Feat Square EncW DecW BilW Bias)
open Cert.ReferenceIdeal.Layers

/-! ### The results as functions of the arguments -/

section Results
variable (x0 x1 : Feat) (x2 x3 : Square) (x4 : EncW) (x5 : DecW) (x6 : BilW) (x7 : Bias)

/-- The embeddings, the reconstructions and the two arrays of scores, as the reference computes them. -/
def embs : FVec Ideal ⟨2, ![10000, 24]⟩ .f32 := stackEmbs (zT x0 x2 x4)
def recs : FVec Ideal ⟨3, ![10000, 3, 128]⟩ .f32 := stackRecs fun i => recT (zT x0 x2 x4 i) x2 (decW x5 i)
def pos : FVec Ideal ⟨3, ![10000, 3, 2]⟩ .f32 :=
  stackPairs fun i => scoresT x3 (zT x0 x2 x4 i) (zT x0 x2 x4 i) (zT x1 x2 x4 i) x6 x7
def neg : FVec Ideal ⟨3, ![10000, 3, 2]⟩ .f32 :=
  stackPairs fun i => scoresT x3 (zT x1 x2 x4 i) (zT x1 x2 x4 i) (zT x0 x2 x4 i) x6 x7

theorem scoresT_at (z y y' : FVec Ideal ⟨2, ![10000, 8]⟩ .f32) (n : Fin 10000) (s : Fin 2) :
    scoresT x3 z y y' x6 x7 (ix2 n s) = Encoder.score (Encoder.readout x3 (fun j h => z (ix2 j h)) n)
      (fun h => (if s = 0 then y else y') (ix2 n h)) x6 x7 := by
  unfold scoresT
  by_cases h : s = 0
  · subst h
    rw [pairT_left, scoreT_gT, if_pos rfl]
  · have h1 : s = 1 := by omega
    subst h1
    rw [pairT_right, scoreT_gT, if_neg (by decide)]

end Results

/-! ### The kernel ends with them -/

section Kernel
open Cert.KernelIdeal Cert.KernelIdeal.Final
variable (m : (ℓ : Loc nD τ sig) → Buf (Elt Ideal) ℓ) (ρ : Dev nD → PrngReg) (c : Dev nD)

theorem emb2_zero (i : Fin 3) (x0 x1 : Feat) (A : Square) (w : EncW) :
    emb2 x0 x1 A w 0 i = fun n k => zT x0 A w i (ix2 n k) := by
  funext n k
  exact (zT_at _ _ _ _ _ _).symm

theorem emb2_one (i : Fin 3) (x0 x1 : Feat) (A : Square) (w : EncW) :
    emb2 x0 x1 A w 1 i = fun n k => zT x1 A w i (ix2 n k) := by
  funext n k
  exact (zT_at _ _ _ _ _ _).symm

theorem kernel_embs : Gen.W6 m ρ c (Proc.devRef .tc main_v0_0)
    = embs (arg m c main_arg0) (arg m c main_arg2) (arg m c main_arg4) := by
  rw [out_score]
  funext y
  idx_vars y
  have e : y1 = ⟨(⟨y1.val / 8, by omega⟩ : Fin 3).val * 8 + (⟨y1.val % 8, by omega⟩ : Fin 8).val, by omega⟩ := Fin.ext (by
    show y1.val = y1.val / 8 * 8 + y1.val % 8
    omega)
  rw [e]
  refine (score_at m c y0 ⟨y1.val / 8, by omega⟩ ⟨y1.val % 8, by omega⟩).trans ?_
  exact ((stackEmbs_at _ _ _ _).trans (zT_at _ _ _ _ _ _)).symm

theorem kernel_pos : Gen.W6 m ρ c (Proc.devRef .tc main_v0_2)
    = pos (arg m c main_arg0) (arg m c main_arg1) (arg m c main_arg2) (arg m c main_arg3) (arg m c main_arg4)
        (arg m c main_arg6) (arg m c main_arg7) := by
  rw [out_pos]
  funext y
  idx_vars y
  refine Eq.symm ((stackPairs_at _ _ _ _).trans ((scoresT_at _ _ _ _ _ _ _ _).trans (Eq.symm ?_)))
  by_cases h : y2 = 0
  · subst h
    refine (pos_at m c y0 y1 0).trans ?_
    rw [emb2_zero]
    rfl
  · have h1 : y2 = 1 := by omega
    subst h1
    refine (pos_at m c y0 y1 1).trans ?_
    rw [emb2_zero, emb2_one]
    rfl

theorem kernel_neg : Gen.W6 m ρ c (Proc.devRef .tc main_v0_3)
    = neg (arg m c main_arg0) (arg m c main_arg1) (arg m c main_arg2) (arg m c main_arg3) (arg m c main_arg4)
        (arg m c main_arg6) (arg m c main_arg7) := by
  rw [out_neg]
  funext y
  idx_vars y
  refine Eq.symm ((stackPairs_at _ _ _ _).trans ((scoresT_at _ _ _ _ _ _ _ _).trans (Eq.symm ?_)))
  by_cases h : y2 = 0
  · subst h
    refine (neg_at m c y0 y1 0 1 rfl).trans ?_
    rw [emb2_one]
    rfl
  · have h1 : y2 = 1 := by omega
    subst h1
    refine (neg_at m c y0 y1 1 0 rfl).trans ?_
    rw [emb2_zero, emb2_one]
    rfl

/-- The kernel's run: the three results above, the reconstructions as the last call leaves them, the arguments as they
    were. -/
theorem kernel_run : θ_run (defs (F := Ideal)) (onTc (τ := τ) (main (F := Ideal))) ⟨m, fun _ => 0, ρ⟩ fun r => ∀ c : Dev nD,
    r.2.mem ((c.tc : Thread nD τ).loc main_v0_0) = embs (arg m c main_arg0) (arg m c main_arg2) (arg m c main_arg4)
    ∧ r.2.mem ((c.tc : Thread nD τ).loc main_v0_1) = Gen.W6 m ρ c (Proc.devRef .tc main_v0_1)
    ∧ r.2.mem ((c.tc : Thread nD τ).loc main_v0_2) = pos (arg m c main_arg0) (arg m c main_arg1) (arg m c main_arg2)
      (arg m c main_arg3) (arg m c main_arg4) (arg m c main_arg6) (arg m c main_arg7)
    ∧ r.2.mem ((c.tc : Thread nD τ).loc main_v0_3) = neg (arg m c main_arg0) (arg m c main_arg1) (arg m c main_arg2)
      (arg m c main_arg3) (arg m c main_arg4) (arg m c main_arg6) (arg m c main_arg7)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨
      (h c _ (Gen.mem_uc main_v0_0 (by decide))).trans (kernel_embs m ρ c),
      h c _ (Gen.mem_uc main_v0_1 (by decide)),
      (h c _ (Gen.mem_uc main_v0_2 (by decide))).trans (kernel_pos m ρ c),
      (h c _ (Gen.mem_uc main_v0_3 (by decide))).trans (kernel_neg m ρ c),
      (h c _ (Gen.mem_uc main_arg0 (by decide))).trans (Gen.W6_main_arg0 m ρ c),
      (h c _ (Gen.mem_uc main_arg1 (by decide))).trans (Gen.W6_main_arg1 m ρ c),
      (h c _ (Gen.mem_uc main_arg2 (by decide))).trans (Gen.W6_main_arg2 m ρ c),
      (h c _ (Gen.mem_uc main_arg3 (by decide))).trans (Gen.W6_main_arg3 m ρ c),
      (h c _ (Gen.mem_uc main_arg4 (by decide))).trans (Gen.W6_main_arg4 m ρ c),
      (h c _ (Gen.mem_uc main_arg5 (by decide))).trans (Gen.W6_main_arg5 m ρ c),
      (h c _ (Gen.mem_uc main_arg6 (by decide))).trans (Gen.W6_main_arg6 m ρ c),
      (h c _ (Gen.mem_uc main_arg7 (by decide))).trans (Gen.W6_main_arg7 m ρ c)⟩)
    (Launched.run m ρ)

end Kernel

/-! ### So does the reference -/

section Reference
open Cert.ReferenceIdeal
variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r => ∀ c : Dev nD,
    r.2.mem ((c.tc : Thread nD τ).loc main_v238) = embs (m ((c.tc : Thread nD τ).loc main_arg0))
      (m ((c.tc : Thread nD τ).loc main_arg2)) (m ((c.tc : Thread nD τ).loc main_arg4))
    ∧ r.2.mem ((c.tc : Thread nD τ).loc main_v242) = recs (m ((c.tc : Thread nD τ).loc main_arg0))
      (m ((c.tc : Thread nD τ).loc main_arg2)) (m ((c.tc : Thread nD τ).loc main_arg4)) (m ((c.tc : Thread nD τ).loc main_arg5))
    ∧ r.2.mem ((c.tc : Thread nD τ).loc main_v246) = pos (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg6)) (m ((c.tc : Thread nD τ).loc main_arg7))
    ∧ r.2.mem ((c.tc : Thread nD τ).loc main_v250) = neg (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨
      (h c).1.trans ((Read.val_main_v238_eq (launchContents m c)).trans (embs_eq _ _ _)),
      (h c).2.1.trans ((Read.val_main_v242_eq (launchContents m c)).trans (recs_eq _ _ _ _)),
      (h c).2.2.1.trans ((Read.val_main_v246_eq (launchContents m c)).trans (pos_eq _ _ _ _ _ _ _)),
      (h c).2.2.2.1.trans ((Read.val_main_v250_eq (launchContents m c)).trans (neg_eq _ _ _ _ _ _ _)),
      (h c).2.2.2.2⟩)
    (Cert.ReferenceIdeal.Value.run (F := Ideal) m ρ)

end Reference

/-! ### The claim without a precondition -/

/-- The mask selects nothing of the reconstructions. -/
theorem mask_recs (y0 y1 : FVec Ideal ⟨3, ![10000, 3, 128]⟩ .f32) (y2 y3 : FVec Ideal ⟨2, ![10000, 10000]⟩ .f32)
    (y4 : FVec Ideal ⟨3, ![128, 3, 8]⟩ .f32) (y5 : FVec Ideal ⟨3, ![8, 3, 128]⟩ .f32) (y6 : FVec Ideal ⟨3, ![1, 8, 8]⟩ .f32)
    (y7 : FVec Ideal ⟨1, ![1]⟩ .f32) (i) : (Cert.On_all_but_recs.fn y0 y1 y2 y3 y4 y5 y6 y7).2.1 i ≠ 1#1 := by
  show (0#1 : BitVec 1) ≠ 1#1
  decide

theorem algebraic_on : Cert.algebraic_KernelIdeal_ReferenceIdeal_on_all_but_recs := by
  intro m g m' g' _ hagree
  refine ⟨fun c => embs (m ((c.tc : Thread _ _).loc Cert.KernelIdeal.main_arg0)) (m ((c.tc : Thread _ _).loc Cert.KernelIdeal.main_arg2))
      (m ((c.tc : Thread _ _).loc Cert.KernelIdeal.main_arg4)),
    fun c => Cert.KernelIdeal.Gen.W6 m g c (Proc.devRef .tc Cert.KernelIdeal.main_v0_1),
    fun c => pos (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg6))
      (m ((c.tc : Thread _ _).loc Cert.KernelIdeal.main_arg7)),
    fun c => neg (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg6))
      (m ((c.tc : Thread _ _).loc Cert.KernelIdeal.main_arg7)), ?_, ?_⟩
  · exact (θ_run Cert.KernelIdeal.defs _ _).mono (fun _ h c => ⟨fun i _ => congrFun (h c).1 i, fun i _ => congrFun (h c).2.1 i,
      fun i _ => congrFun (h c).2.2.1 i, fun i _ => congrFun (h c).2.2.2.1 i, (h c).2.2.2.2⟩) (kernel_run m g)
  · refine (θ_run Cert.ReferenceIdeal.defs _ _).mono (fun _ h c => ?_) (reference_run m' g')
    have h := h c
    obtain ⟨e0, e1, e2, e3, e4, e5, e6, e7⟩ := hagree c
    refine ⟨fun i _ => ?_, fun i hi => absurd hi (mask_recs _ _ _ _ _ _ _ _ i), fun i _ => ?_, fun i _ => ?_, h.2.2.2.2⟩
    · exact congrFun (h.1.trans (by rw [e0, e2, e4])) i
    · exact congrFun (h.2.2.1.trans (by rw [e0, e1, e2, e3, e4, e6, e7])) i
    · exact congrFun (h.2.2.2.1.trans (by rw [e0, e1, e2, e3, e4, e6, e7])) i

end Cert.Matching

end
-- ==== Proof.Region3.lean ====
/- The fourth call: the packed words are taken apart bit by bit, the rows so recovered are spread over the scores and
   divided by their number of entries, and the result goes through the decoder weights. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Decode

open Idealize.ShloMosaic Idealize.ShloMosaic.TcCoe Idealize.SL.Sem
open Idealize.ShloMosaic.Pipeline (Dat)
open Cert.KernelIdeal Cert.KernelIdeal.Gen

/-- A word halved and rounded down `k` times. -/
def cur (v : EReal) : ℕ → EReal
  | 0 => v
  | k + 1 => Ideal.liftRound Int.floor (cur v k * Ideal.ofBits .f32 0x3F000000#32)

/-- What the `k`-th halving drops. -/
def bit (v : EReal) (k : ℕ) : EReal := cur v k - cur v (k + 1) - cur v (k + 1)

/-- A tile of words halved and rounded down. -/
def halved (v : FVec Ideal S25x10000 .f32) : FVec Ideal S25x10000 .f32 :=
  floor (mulf v (broadcast S25x10000 (Scalar.ofBits .f32 0x3F000000#32)))

/-- What halving `u` to `v` drops. -/
def dropped (u v : FVec Ideal S25x10000 .f32) : FVec Ideal S25x10000 .f32 := subf (subf u v) v

/-- A tile of words after `k` halvings. -/
def curT (x0 : Vec Ideal S1x25x10000 .f32) : ℕ → FVec Ideal S25x10000 .f32
  | 0 => shapeCast S25x10000 x0 shapeCasts_S1x25x10000_S25x10000
  | k + 1 => halved (curT x0 k)

/-- A tile's `k`-th bits. -/
def bitT (x0 : Vec Ideal S1x25x10000 .f32) (k : ℕ) : FVec Ideal S25x10000 .f32 := dropped (curT x0 k) (curT x0 (k + 1))

/-- Sixteen tiles of bits, one below the other. -/
def stack (p : Fin 16 → FVec Ideal S25x10000 .f32) : FVec Ideal S400x10000 .f32 :=
  concatenate S400x10000 0 [⟨S25x10000, p 0⟩, ⟨S25x10000, p 1⟩, ⟨S25x10000, p 2⟩, ⟨S25x10000, p 3⟩, ⟨S25x10000, p 4⟩, ⟨S25x10000, p 5⟩, ⟨S25x10000, p 6⟩, ⟨S25x10000, p 7⟩, ⟨S25x10000, p 8⟩, ⟨S25x10000, p 9⟩, ⟨S25x10000, p 10⟩, ⟨S25x10000, p 11⟩, ⟨S25x10000, p 12⟩, ⟨S25x10000, p 13⟩, ⟨S25x10000, p 14⟩, ⟨S25x10000, p 15⟩] concatenates_S25x10000_S25x10000_S25x10000_S25x10000_S25x10000_S25x10000_S25x10000_S25x10000_S25x10000_S25x10000_S25x10000_S25x10000_S25x10000_S25x10000_S25x10000_S25x10000_S400x10000_d0

/-- The scores spread along `M`, divided by the spread of the ones. -/
def meanOf (M : FVec Ideal S400x10000 .f32) (z : FVec Ideal S10000x32 .f32) : FVec Ideal S400x24 .f32 :=
  divf (extractStridedSlice S400x24 ![0, 0] (matmul dot_S400x10000_S10000x32_S400x32_1_0_0_1_n_n none M
      (shapeCast S10000x32 z shapeCasts_S10000x32_S10000x32) (constant S400x32 .f32 0x00000000#32)) slices_S400x32_o0_0_S400x24)
    (broadcastTo S400x24 (extractStridedSlice S400x1 ![0, 24] (matmul dot_S400x10000_S10000x32_S400x32_1_0_0_1_n_n none M
      (shapeCast S10000x32 z shapeCasts_S10000x32_S10000x32) (constant S400x32 .f32 0x00000000#32)) slices_S400x32_o0_24_S400x1)
      broadcasts_S400x1_S400x24)

theorem curT_at (x0 : Vec Ideal S1x25x10000 .f32) (r : Fin 25) (j : Fin 10000) (k : ℕ) :
    curT x0 k (ix2 r j) = cur (x0 (ix3 0 r j)) k := by
  induction k with
  | zero =>
    unfold curT
    pointwise [cur]
  | succ k ih =>
    unfold curT
    pointwise [halved]
    rw [ih]
    rfl

theorem bitT_at (x0 : Vec Ideal S1x25x10000 .f32) (r : Fin 25) (j : Fin 10000) (k : ℕ) :
    bitT x0 k (ix2 r j) = bit (x0 (ix3 0 r j)) k := by
  unfold bitT
  pointwise [dropped]
  rw [curT_at, curT_at]
  rfl

theorem stack_at (p : Fin 16 → FVec Ideal S25x10000 .f32) (r : Fin 400) (j : Fin 10000) :
    stack p (ix2 r j) = p ⟨r.val / 25, by omega⟩ (ix2 ⟨r.val % 25, by omega⟩ j) :=
  concatenate_ofFn_apply (t := S400x10000) (s₁ := S25x10000) 0 p
    concatenates_S25x10000_S25x10000_S25x10000_S25x10000_S25x10000_S25x10000_S25x10000_S25x10000_S25x10000_S25x10000_S25x10000_S25x10000_S25x10000_S25x10000_S25x10000_S25x10000_S400x10000_d0 rfl 25 rfl (ix2 r j) ⟨r.val / 25, by omega⟩ rfl (ix2 ⟨r.val % 25, by omega⟩ j) rfl (by
      intro b hb
      fin_cases b
      · exact absurd rfl hb
      · rfl)

theorem meanOf_at (M : FVec Ideal S400x10000 .f32) (z : Vec Ideal S10000x32 .f32) (r : Fin 400) (q : Fin 24) :
    meanOf M z (ix2 r q) = Ideal.div (∑ j : Fin 10000, M (ix2 r j) * z (ix2 j ⟨q.val, by omega⟩))
      (∑ j : Fin 10000, M (ix2 r j) * z (ix2 j 24)) := by
  pointwise [meanOf]

/-- The rows recovered from a tile of words, spread over the scores `z` (and, in column 24, over ones). -/
def gather (x : Fin 25 → Fin 10000 → EReal) (z : FVec Ideal S10000x32 .f32) (r : Fin 400) (q : Fin 32) : EReal :=
  ∑ j : Fin 10000, bit (x ⟨r.val % 25, by omega⟩ j) (r.val / 25) * z (ix2 j q)

theorem mean_eq (x0 : Vec Ideal S1x25x10000 .f32) (z : Vec Ideal S10000x32 .f32) :
    k3_pay23 (k3_pay6 x0) (k3_pay8 x0) (k3_pay10 x0) (k3_pay12 x0) (k3_pay14 x0) (k3_pay16 x0) (k3_pay18 x0) (k3_pay20 x0)
        (k3_pay21 x0) (k3_pay22 x0) z
      = meanOf (stack fun k => bitT x0 k.val) z := rfl

theorem mean_at (x0 : Vec Ideal S1x25x10000 .f32) (z : Vec Ideal S10000x32 .f32) (r : Fin 400) (q : Fin 24) :
    meanOf (stack fun k => bitT x0 k.val) z (ix2 r q)
      = Ideal.div (gather (fun a j => x0 (ix3 0 a j)) z r ⟨q.val, by omega⟩) (gather (fun a j => x0 (ix3 0 a j)) z r 24) := by
  rw [meanOf_at]
  simp only [stack_at, bitT_at, gather]

/-- One layer of the decoder on a row of means. -/
theorem block (x0 : Vec Ideal S1x25x10000 .f32) (x1 : Vec Ideal S10000x32 .f32) (x2 : Vec Ideal S8x3x128 .f32) (y : S400x3x128.Idx) :
    out3_3 x0 x1 x2 y = ∑ k : Fin 8, meanOf (stack fun k => bitT x0 k.val) x1
      (ix2 (y 0) ⟨(y 1).val * 8 + k.val, by have : (y 1).val < 3 := (y 1).isLt; have := k.isLt; show _ < 24; omega⟩) * x2 (ix3 k (y 1) (y 2)) := by
  unfold_out out3_3
  have e0 : View.ld x0 r3_0 = x0 := by
    funext j
    idx_vars j
    pointwise []
    blk_ext
  have e1 : View.ld x1 r3_1 = x1 := by
    funext j
    idx_vars j
    pointwise []
  rw [e0, e1]
  unfold k3_pay24
  rw [mean_eq]
  generalize meanOf (stack fun k => bitT x0 k.val) x1 = M
  clear e0 e1
  canon_tiles x h
  all_goals
    idx_vars x
    idx_vars y
    pointwise [k3_pay1, k3_pay2, k3_pay3, k3_pay25, h0, h1, h2]
    exact Finset.sum_congr rfl fun k _ => Ideal.mul_congr (by blk_ext) (by blk_ext)

/-- A row of reconstructions: the means of the recovered row through the decoder weights. -/
def row (x : Fin 25 → Fin 10000 → EReal) (z : FVec Ideal S10000x32 .f32) (d : FVec Ideal S8x3x128 .f32) (r : Fin 400) (i : Fin 3)
    (f : Fin 128) : EReal :=
  ∑ k : Fin 8, Ideal.div (gather x z r ⟨i.val * 8 + k.val, by omega⟩) (gather x z r 24) * d (ix3 k i f)

theorem row_congr {x x' : Fin 25 → Fin 10000 → EReal} {z : FVec Ideal S10000x32 .f32} {d : FVec Ideal S8x3x128 .f32} {r r' : Fin 400}
    {i i' : Fin 3} {f f' : Fin 128} (hx : x = x') (hr : r = r') (hi : i = i') (hf : f = f') :
    row x z d r i f = row x' z d r' i' f' := by
  rw [hx, hr, hi, hf]

theorem block_row (x0 : Vec Ideal S1x25x10000 .f32) (x1 : Vec Ideal S10000x32 .f32) (x2 : Vec Ideal S8x3x128 .f32) (r : Fin 400)
    (i : Fin 3) (f : Fin 128) : out3_3 x0 x1 x2 (ix3 r i f) = row (fun a j => x0 (ix3 0 a j)) x1 x2 r i f := by
  rw [block]
  exact Finset.sum_congr rfl fun k _ => Ideal.mul_congr (mean_at _ _ _ _) rfl

/-- The reconstructions: row `n` is row `n % 400` of tile `n / 400`. -/
def recs (P : FVec Ideal S25x25x10000 .f32) (z : FVec Ideal S10000x32 .f32) (d : FVec Ideal S8x3x128 .f32) :
    FVec Ideal S10000x3x128 .f32 := fun y =>
  row (fun a j => P (ix3 ⟨(y 0).val / 400, by have : (y 0).val < 10000 := (y 0).isLt; omega⟩ a j)) z d ⟨(y 0).val % 400, by omega⟩ (y 1) (y 2)

variable (V : (c : Dev nD) → (b : Ref sig .tc) → Buf (Elt Ideal) ((c : Thread nD τ).loc b))

theorem idx : ∀ t : Fin cfg3.N, win3_0.index t = ![t.val, 0, 0] ∧ win3_1.index t = ![0, 0] ∧ win3_2.index t = ![0, 0, 0]
    ∧ win3_3.index t = ![t.val, 0, 0] :=
  (by decide +kernel : ∀ t : Fin grid3.N, _)

theorem whole1 (c : Dev nD) (t : Fin cfg3.N) : iblk3 V c 1 t = V c main_call0_v4_1 := by
  funext y
  blk_ext [iblk3, idx t]
theorem whole2 (c : Dev nD) (t : Fin cfg3.N) : iblk3 V c 2 t = V c main_arg5 := by
  funext y
  blk_ext [iblk3, idx t]

theorem arr (c : Dev nD) : (dat3 V c).arrAt 3 cfg3.N = recs (V c main_call0_v4_4) (V c main_call0_v4_1) (V c main_arg5) := by
  refine (dat3 V c).arrAt_eq_of_covers 3 _ (by decide +kernel) fun t _ y => ?_
  blk_simp
  rw [after3_3]
  idx_vars y
  rw [whole1, whole2]
  refine (block_row _ _ _ _ _ _).trans ?_
  unfold recs
  exact row_congr (funext fun a => funext fun j => by blk_ext [iblk3, idx t]) (Fin.ext (by
    blk_simp [idx t]
    show y0.val = (t.val * 400 + y0.val) % 400
    omega))
    (Fin.ext (by blk_simp [idx t])) (Fin.ext (by blk_simp [idx t]))

end Cert.KernelIdeal.Decode

end
-- ==== Proof.Consts.lean ====
/- The kernel's float constants as real numbers. -/
module

public import Idealize.ShloMosaic.Lib.Pipeline.ValueKit
public import Idealize.ShloMosaic.Lib.Pointwise

@[expose] public section

set_option maxRecDepth 16384

noncomputable section

namespace Cert.KernelIdeal.Consts

open Idealize.ShloMosaic Idealize.ShloMosaic.TcCoe Idealize.SL.Sem

/-- A power of two below 2^16, from its bits. -/
theorem two_pow_bits : ∀ k : Fin 16, Ideal.ofBits .f32 (BitVec.ofNat 32 ((127 + k.val) * 2 ^ 23)) = (((2 : ℝ) ^ k.val : ℝ) : EReal) := by
  intro k
  fin_cases k <;> (simp [Ideal.ofBits, Ideal.ieee, -EReal.coe_mul, -EReal.coe_pow]; try norm_num)

/-- The half, from its bits. -/
theorem half_bits : Ideal.ofBits .f32 0x3F000000#32 = ((1 / 2 : ℝ) : EReal) := by
  simp [Ideal.ofBits, Ideal.ieee, -EReal.coe_mul]
  try norm_num

/-- The bits of infinity. -/
theorem inf_bits : Ideal.ofBits .f32 0x7F800000#32 = (⊤ : EReal) := by
  simp [Ideal.ofBits, Ideal.ieee]

end Cert.KernelIdeal.Consts

end
-- ==== Proof.Bits.lean ====
/- Packing sixteen truth values into a word and taking them out again by halving, as real numbers. -/
module

public import proofs.«01_k».proof.Proof.Run
public import proofs.«01_k».proof.Proof.Region3
public import proofs.«01_k».proof.Proof.Tables
public import proofs.«01_k».proof.Proof.Consts
public import proofs.«01_k».proof.Proof.Math

@[expose] public section

set_option maxRecDepth 16384

noncomputable section

namespace Cert.KernelIdeal.Final

open Idealize.ShloMosaic Idealize.ShloMosaic.TcCoe Idealize.SL.Sem
open Cert.KernelIdeal Cert.KernelIdeal.Gen
open Cert.Encoder (Feat Square EncW DecW BilW Bias)

/-- Finite sums of real numbers are taken in the reals. -/
theorem coe_sum {ι : Type} (s : Finset ι) (f : ι → ℝ) : ((∑ i ∈ s, f i : ℝ) : EReal) = ∑ i ∈ s, (f i : EReal) := by
  induction s using Finset.cons_induction with
  | empty => rw [Finset.sum_empty, Finset.sum_empty, EReal.coe_zero]
  | cons a s h ih => rw [Finset.sum_cons, Finset.sum_cons, EReal.coe_add, ih]

/-- A binary digit of a sum of powers of two. -/
theorem digit (n : ℕ) : ∀ (b : ℕ → ℕ) (k : ℕ), k < n → (∀ i, b i ≤ 1) →
    (∑ i ∈ Finset.range n, 2 ^ i * b i) / 2 ^ k % 2 = b k := by
  induction n with
  | zero => intro b k hk _; omega
  | succ n ih =>
    intro b k hk hb
    have e : ∑ i ∈ Finset.range (n + 1), 2 ^ i * b i = 2 * (∑ i ∈ Finset.range n, 2 ^ i * b (i + 1)) + b 0 := by
      rw [Finset.sum_range_succ', Finset.mul_sum, pow_zero, one_mul]
      exact congrArg (· + b 0) (Finset.sum_congr rfl fun i _ => by rw [pow_succ]; ring)
    have h0 := hb 0
    rw [e]
    cases k with
    | zero => rw [pow_zero, Nat.div_one]; omega
    | succ k =>
      rw [pow_succ', ← Nat.div_div_eq_div_mul, ← ih (fun i => b (i + 1)) k (by omega) fun i => hb _]
      congr 2
      omega

/-- Halving a whole number rounds down. -/
theorem half_floor (N : ℕ) :
    Ideal.liftRound Int.floor (((N : ℝ) : EReal) * Ideal.ofBits .f32 0x3F000000#32) = (((N / 2 : ℕ) : ℝ) : EReal) := by
  rw [Consts.half_bits, ← EReal.coe_mul, Ideal.liftRound_coe]
  have e : ⌊(N : ℝ) * (1 / 2)⌋ = ((N / 2 : ℕ) : ℤ) := by
    have h : ((N : ℕ) : ℝ) = 2 * ((N / 2 : ℕ) : ℝ) + ((N % 2 : ℕ) : ℝ) := by exact_mod_cast (Nat.div_add_mod N 2).symm
    have h0 : (0 : ℝ) ≤ ((N % 2 : ℕ) : ℝ) := Nat.cast_nonneg _
    have h1 : ((N % 2 : ℕ) : ℝ) ≤ 1 := by exact_mod_cast Nat.lt_succ_iff.mp (Nat.mod_lt N two_pos)
    rw [Int.floor_eq_iff, h, Int.cast_natCast]
    constructor <;> linarith
  rw [e, Int.cast_natCast]

theorem cur_nat (N k : ℕ) : Decode.cur ((N : ℝ) : EReal) k = (((N / 2 ^ k : ℕ) : ℝ) : EReal) := by
  induction k with
  | zero => rw [pow_zero, Nat.div_one]; rfl
  | succ k ih =>
    show Ideal.liftRound Int.floor (Decode.cur _ k * _) = _
    rw [ih, half_floor, Nat.div_div_eq_div_mul, pow_succ]

theorem bit_nat (N k : ℕ) : Decode.bit ((N : ℝ) : EReal) k = (((N / 2 ^ k % 2 : ℕ) : ℝ) : EReal) := by
  unfold Decode.bit
  rw [cur_nat, cur_nat, ← EReal.coe_sub, ← EReal.coe_sub, pow_succ, ← Nat.div_div_eq_div_mul]
  generalize N / 2 ^ k = M
  have h : (M : ℝ) = 2 * ((M / 2 : ℕ) : ℝ) + ((M % 2 : ℕ) : ℝ) := by exact_mod_cast (Nat.div_add_mod M 2).symm
  congr 1
  linarith

theorem packing_at (a : Fin 25) (q : Fin 400) :
    packing (ix2 a q) = (((if q.val % 25 = a.val then 2 ^ (q.val / 25) else 0 : ℕ) : ℝ) : EReal) := by
  have e : packing (ix2 a q)
      = Ideal.ofBits .f32 (if q.val % 25 = a.val then BitVec.ofNat 32 ((127 + q.val / 25) * 2 ^ 23) else 0#32) := by
    rw [← Tables.lit3_at a q]
    exact congrArg (fun j => Ideal.ofBits .f32 (lit3 j)) (Fin.ext (by rw [Shape.rowMajor_val_two]; rfl))
  rw [e]
  split
  · have := q.isLt
    rw [Consts.two_pow_bits ⟨q.val / 25, by omega⟩]
    push_cast
    rfl
  · rw [Ideal.ofBits_zero_f32]
    simp

/-- A sum over 400 rows of which the words keep one in 25. -/
theorem sum_rows (a : Fin 25) (e : ℕ → ℕ) :
    ∑ q : Fin 400, (if q.val % 25 = a.val then 2 ^ (q.val / 25) else 0) * e q.val
      = ∑ k ∈ Finset.range 16, 2 ^ k * e (k * 25 + a.val) := by
  rw [← Fin.sum_univ_eq_sum_range fun k => 2 ^ k * e (k * 25 + a.val)]
  rw [← Equiv.sum_comp (finProdFinEquiv (m := 16) (n := 25)), Fintype.sum_prod_type]
  refine Finset.sum_congr rfl fun k _ => ?_
  rw [Finset.sum_eq_single a]
  · have ha := a.isLt
    show (if (a.val + 25 * k.val) % 25 = a.val then 2 ^ ((a.val + 25 * k.val) / 25) else 0) * e (a.val + 25 * k.val) = _
    rw [if_pos (by omega), show (a.val + 25 * k.val) / 25 = k.val by omega, show a.val + 25 * k.val = k.val * 25 + a.val by omega]
  · intro b _ hb
    have hb' : b.val ≠ a.val := fun h => hb (Fin.ext h)
    have := a.isLt
    have := b.isLt
    show (if (b.val + 25 * k.val) % 25 = a.val then _ else 0) * _ = 0
    rw [if_neg (by omega), Nat.zero_mul]
  · intro h
    exact absurd (Finset.mem_univ _) h

/-- Whether node `n` has an edge to node `j`. -/
def edge (A : Square) (n j : Fin 10000) : ℕ := if 0 < A (ix2 n j) then 1 else 0

theorem edge_coe (A : Square) (n j : Fin 10000) :
    (((edge A n j : ℕ) : ℝ) : EReal) = if 0 < A (ix2 n j) then 1 else 0 := by
  unfold edge
  split <;> simp

/-- A bit of a packed word is an edge. -/
theorem bit_packed (A : Square) (t a : Fin 25) (j : Fin 10000) (k : ℕ) (hk : k < 16) :
    Decode.bit (Spread.packed A packing (ix3 t a j)) k
      = ((edge A ⟨t.val * 400 + (k * 25 + a.val), by omega⟩ j : ℕ) : ℝ) := by
  set e : ℕ → ℕ := fun q => if h : q < 400 then edge A ⟨t.val * 400 + q, by omega⟩ j else 0 with he
  have hw : Spread.packed A packing (ix3 t a j) = (((∑ k ∈ Finset.range 16, 2 ^ k * e (k * 25 + a.val) : ℕ) : ℝ) : EReal) := by
    rw [← sum_rows, Nat.cast_sum, coe_sum]
    refine Finset.sum_congr rfl fun q _ => ?_
    rw [Nat.cast_mul, EReal.coe_mul, ← packing_at]
    refine Ideal.mul_congr rfl ?_
    have e' : e q.val = edge A ⟨t.val * 400 + q.val, by omega⟩ j := dif_pos q.isLt
    rw [e', edge_coe]
    rfl
  have h1 : ∀ q, e q ≤ 1 := fun q => by
    simp only [he, edge]
    split
    · split <;> omega
    · omega
  rw [hw, bit_nat, digit 16 (fun k => e (k * 25 + a.val)) k hk fun i => h1 _]
  simp only [he]
  rw [dif_pos (by omega)]

/-- What a row of the recovered matrix gathers: the sum over the node's edges. -/
theorem gather_packed (A : Square) (z : FVec Ideal S10000x32 .f32) (n : Fin 10000) (q : Fin 32) :
    Decode.gather (fun a j => Spread.packed A packing (ix3 ⟨n.val / 400, by omega⟩ a j)) z ⟨n.val % 400, by omega⟩ q
      = ∑ j : Fin 10000, (((edge A n j : ℕ) : ℝ) : EReal) * z (ix2 j q) := by
  unfold Decode.gather
  refine Finset.sum_congr rfl fun j _ => Ideal.mul_congr ?_ rfl
  rw [bit_packed _ _ _ _ _ (by show n.val % 400 / 25 < 16; omega)]
  have h : n.val / 400 * 400 + (n.val % 400 / 25 * 25 + n.val % 400 % 25) = n.val := by omega
  simp only [h]

end Cert.KernelIdeal.Final

end
-- ==== Proof.Means.lean ====
/- The reconstructions of the last call, and why they are the problem's when the adjacency matrix holds means. -/
module

public import proofs.«01_k».proof.Proof.Bits
public import proofs.«01_k».proof.Proof.KernelMath

@[expose] public section

set_option maxRecDepth 16384

noncomputable section

namespace Cert.KernelIdeal.Final

open Idealize.ShloMosaic Idealize.ShloMosaic.TcCoe Idealize.SL.Sem
open Cert.KernelIdeal Cert.KernelIdeal.Gen
open Cert.Encoder (Feat Square EncW DecW BilW Bias)

/-! ### The kernel's reconstructions at an index -/

section Kernel
variable (x0 x1 : Feat) (A : Square) (w : EncW) (d : DecW)

theorem scoreOnes_at (j : Fin 10000) (i : Fin 3) (k : Fin 8) :
    Spread.scoreOnes A (encd x0 x1 w) (ix2 j ⟨i.val * 8 + k.val, by omega⟩) = Encoder.emb x0 A w i j k := by
  have h : i.val * 8 + k.val < 24 := by omega
  refine (dif_pos h).trans ((congrArg (Spread.spread A (encd x0 x1 w) j) (Fin.ext ?_)).trans (spread_at x0 x1 A w 0 i j k))
  show i.val * 8 + k.val = 0 * 24 + i.val * 8 + k.val
  omega

theorem scoreOnes_one (j : Fin 10000) : Spread.scoreOnes A (encd x0 x1 w) (ix2 j 24) = 1 := dif_neg (lt_irrefl 24)

/-- The mean over the edges of node `n` of the embeddings, through the decoder weights. -/
theorem recs_at (n : Fin 10000) (i : Fin 3) (f : Fin 128) :
    Decode.recs (Spread.packed A packing) (Spread.scoreOnes A (encd x0 x1 w)) d (ix3 n i f)
      = ∑ k : Fin 8, Ideal.div (∑ j : Fin 10000, (((edge A n j : ℕ) : ℝ) : EReal) * Encoder.emb x0 A w i j k)
          (∑ j : Fin 10000, (((edge A n j : ℕ) : ℝ) : EReal)) * d (ix3 k i f) := by
  show Decode.row (fun a j => Spread.packed A packing (ix3 ⟨n.val / 400, _⟩ a j)) _ d ⟨n.val % 400, _⟩ i f = _
  unfold Decode.row
  simp only [gather_packed, scoreOnes_at, scoreOnes_one, mul_one]

end Kernel

/-! ### The same in the reals -/

/-- A number below infinity in size is real. -/
theorem real_of {x : EReal} (h : max x (-x) < ⊤) : ∃ r : ℝ, x = r := by
  induction x with
  | bot => simp at h
  | coe r => exact ⟨r, rfl⟩
  | top => simp at h

theorem div_real (a : ℝ) {b : ℝ} (hb : b ≠ 0) : Ideal.div (a : EReal) (b : EReal) = ((a * b⁻¹ : ℝ) : EReal) := by
  unfold Ideal.div
  rw [if_neg (by exact_mod_cast hb), EReal.coe_mul, EReal.coe_inv]

/-- A quotient by zero is not real. -/
theorem div_zero_not_real (x : EReal) (r : ℝ) : Ideal.div x 0 ≠ (r : EReal) := by
  unfold Ideal.div
  rw [if_pos rfl]
  split
  · exact (EReal.coe_ne_top r).symm
  · exact (EReal.coe_ne_bot r).symm

/-- A mean of embeddings through the decoder weights is the mean of the embeddings so decoded. -/
theorem mean_swap {J K : Type} [Fintype J] [Fintype K] (e : J → ℝ) (z : J → K → ℝ) (d : K → ℝ) (D : ℝ) :
    ∑ k : K, (∑ j : J, e j * z j k) * D⁻¹ * d k = ∑ j : J, e j * D⁻¹ * ∑ k : K, z j k * d k := by
  simp only [Finset.sum_mul, Finset.mul_sum]
  rw [Finset.sum_comm]
  exact Finset.sum_congr rfl fun j _ => Finset.sum_congr rfl fun k _ => by ring

/-- With every row of the adjacency matrix the mean over its edges, and all that enters real, the kernel's reconstructions
    are the problem's. -/
theorem recs_eq (x0 x1 : Feat) (A : Square) (w : EncW) (d : DecW)
    (hmean : ∀ n j, A (ix2 n j) = Ideal.div (((edge A n j : ℕ) : ℝ) : EReal) (∑ j : Fin 10000, (((edge A n j : ℕ) : ℝ) : EReal)))
    (hA : ∀ n j, ∃ r : ℝ, A (ix2 n j) = r) (hx : ∀ j i f, ∃ r : ℝ, x0 (ix3 j i f) = r)
    (hw : ∀ f i k, ∃ r : ℝ, w (ix3 f i k) = r) (hd : ∀ k i f, ∃ r : ℝ, d (ix3 k i f) = r)
    (n : Fin 10000) (i : Fin 3) (f : Fin 128) :
    Decode.recs (Spread.packed A packing) (Spread.scoreOnes A (encd x0 x1 w)) d (ix3 n i f)
      = ∑ j : Fin 10000, A (ix2 n j) * ∑ k : Fin 8, Encoder.emb x0 A w i j k * d (ix3 k i f) := by
  have hz : ∀ j k, ∃ r : ℝ, Encoder.emb x0 A w i j k = r := fun j k => by
    choose a ha using hA
    choose x hx using hx
    choose v hw using hw
    unfold Encoder.emb Encoder.hidden
    simp only [ha, hx, hw, ← EReal.coe_mul, ← coe_sum]
    exact ⟨_, rfl⟩
  choose z hz using hz
  choose v hd using hd
  have hD : (∑ j : Fin 10000, ((edge A n j : ℕ) : ℝ)) ≠ 0 := fun h0 => by
    obtain ⟨r, hr⟩ := hA n 0
    rw [hmean, ← coe_sum, h0, EReal.coe_zero] at hr
    exact div_zero_not_real _ _ hr
  have hrow : ∀ j, A (ix2 n j) = ((((edge A n j : ℕ) : ℝ) * (∑ j : Fin 10000, ((edge A n j : ℕ) : ℝ))⁻¹ : ℝ) : EReal) := fun j => by
    rw [← div_real _ hD, coe_sum]
    exact hmean n j
  rw [recs_at]
  simp only [hrow, hz, hd, ← EReal.coe_mul, ← coe_sum, div_real _ hD]
  exact congrArg _ (mean_swap _ _ _ _)

end Cert.KernelIdeal.Final

end
-- ==== Proof.Precondition.lean ====
/- What the precondition `rows_are_means` says of the arguments: the entries that enter the reconstructions are real, and
   every row of the adjacency matrix is the indicator of its edges divided by their number. -/
module

public import proofs.«01_k».proof.Proof.Means
public import proofs.«01_k».proof.Defs

@[expose] public section

set_option maxRecDepth 16384

noncomputable section

namespace Cert.Pre_rows_are_means

open Idealize.ShloMosaic Idealize.ShloMosaic.TcCoe Idealize.SL.Sem
open Cert.Encoder (Feat Square EncW DecW BilW Bias)

/-- The shapes of the predicate fit. -/
instance holds : Facts where
  bcast_S_S10000x10000 := by decide
  reducesTo_S10000x10000_S10000_d1 := by decide
  h_S_ := by decide
  bcast_S10000_S10000x10000_0 := by decide
  bcast_S_S10000x3x128 := by decide
  bcast_S_S128x3x8 := by decide
  bcast_S_S8x3x128 := by decide

open Facts

variable (x0 x1 : Feat) (A G : Square) (w : EncW) (d : DecW) (bw : BilW) (bb : Bias)

theorem of_bit {p : Prop} [Decidable p] (h : BitVec.ofBool (decide p) = 1#1) : p := by
  by_contra hp
  rw [decide_eq_false hp] at h
  exact absurd h (by decide)

/-- The edges' indicator. -/
def edges : Square := select (cmpf .ogt A (broadcastInDim S10000x10000 ![] bcast_S_S10000x10000 (constant S_ .f32 0x00000000#32)))
  (broadcastInDim S10000x10000 ![] bcast_S_S10000x10000 (constant S_ .f32 0x3F800000#32))
  (broadcastInDim S10000x10000 ![] bcast_S_S10000x10000 (constant S_ .f32 0x00000000#32))

theorem edges_at (n j : Fin 10000) : edges A (ix2 n j) = (((KernelIdeal.Final.edge A n j : ℕ) : ℝ) : EReal) := by
  rw [KernelIdeal.Final.edge_coe]
  pointwise [edges]

/-- The indicator over the number of edges. -/
def means : Square := Host.divf (edges A) (broadcastInDim S10000x10000 ![0] bcast_S10000_S10000x10000_0
  (Host.reduceAdd (edges A) (constant S_ .f32 0x00000000#32) reducesTo_S10000x10000_S10000_d1 h_S_))

theorem means_at (n j : Fin 10000) : means A (ix2 n j) = Ideal.div (edges A (ix2 n j)) (∑ j : Fin 10000, edges A (ix2 n j)) := by
  unfold means
  generalize edges A = E
  pointwise []

theorem mean_of (h : (fn (F := Ideal) x0 x1 A G w d bw bb).1 = fun _ => 1#1) (n j : Fin 10000) :
    A (ix2 n j) = Ideal.div (((KernelIdeal.Final.edge A n j : ℕ) : ℝ) : EReal)
      (∑ j : Fin 10000, (((KernelIdeal.Final.edge A n j : ℕ) : ℝ) : EReal)) := by
  have h : cmpf .oeq A (means A) (ix2 n j) = 1#1 := congrFun h (ix2 n j)
  simp only [← edges_at]
  rw [← means_at]
  generalize means A = M at h ⊢
  pointwise [] at h
  exact of_bit h

/-- An entry the predicate finds below infinity in size is real. -/
theorem real_entry {s : Shape} (x : FVec Ideal s .f32) (b : S_.BroadcastsInDim s (![] : Fin 0 → Fin s.rank)) (i : s.Idx)
    (h : cmpf .olt (Host.absf x) (broadcastInDim s ![] b (constant S_ .f32 0x7F800000#32)) i = 1#1) : ∃ r : ℝ, x i = r := by
  have h : BitVec.ofBool (decide (max (x i) (-(x i)) < Ideal.ofBits .f32 0x7F800000#32)) = 1#1 := h
  rw [KernelIdeal.Consts.inf_bits] at h
  exact KernelIdeal.Final.real_of (of_bit h)

theorem real_adj (h : (fn (F := Ideal) x0 x1 A G w d bw bb).2.1 = fun _ => 1#1) (n j : Fin 10000) : ∃ r : ℝ, A (ix2 n j) = r :=
  real_entry A bcast_S_S10000x10000 (ix2 n j) (congrFun h (ix2 n j))
theorem real_feat (h : (fn (F := Ideal) x0 x1 A G w d bw bb).2.2.1 = fun _ => 1#1) (j : Fin 10000) (i : Fin 3) (f : Fin 128) :
    ∃ r : ℝ, x0 (ix3 j i f) = r :=
  real_entry x0 bcast_S_S10000x3x128 (ix3 j i f) (congrFun h (ix3 j i f))
theorem real_enc (h : (fn (F := Ideal) x0 x1 A G w d bw bb).2.2.2.1 = fun _ => 1#1) (f : Fin 128) (i : Fin 3) (k : Fin 8) :
    ∃ r : ℝ, w (ix3 f i k) = r :=
  real_entry w bcast_S_S128x3x8 (ix3 f i k) (congrFun h (ix3 f i k))
theorem real_dec (h : (fn (F := Ideal) x0 x1 A G w d bw bb).2.2.2.2 = fun _ => 1#1) (k : Fin 8) (i : Fin 3) (f : Fin 128) :
    ∃ r : ℝ, d (ix3 k i f) = r :=
  real_entry d bcast_S_S8x3x128 (ix3 k i f) (congrFun h (ix3 k i f))

end Cert.Pre_rows_are_means

end
-- ==== Proof.Reconstructions.lean ====
/- Under the precondition `rows_are_means` both programs also end with the same reconstructions. -/
module

public import proofs.«01_k».proof.Proof.Matching
public import proofs.«01_k».proof.Proof.Precondition

@[expose] public section

set_option maxRecDepth 16384

noncomputable section

namespace Cert.Matching

open Idealize.ShloMosaic Idealize.ShloMosaic.TcCoe Idealize.SL.Sem Idealize.ShloMosaic.StableHlo
open Cert.Encoder (Feat Square EncW DecW BilW Bias)
open Cert.ReferenceIdeal.Layers

/-- The reference's reconstructions at an index. -/
theorem recs_at (x0 : Feat) (x2 : Square) (x4 : EncW) (x5 : DecW) (n : Fin 10000) (i : Fin 3) (f : Fin 128) :
    recs x0 x2 x4 x5 (ix3 n i f) = ∑ j : Fin 10000, x2 (ix2 n j) * ∑ k : Fin 8, Encoder.emb x0 x2 x4 i j k * x5 (ix3 k i f) := by
  refine (stackRecs_at _ n i f).trans ((recT_at _ _ _ _ _).trans ?_)
  simp only [zT_at]
  rfl

section Kernel
open Cert.KernelIdeal Cert.KernelIdeal.Final
variable (m : (ℓ : Loc nD τ sig) → Buf (Elt Ideal) ℓ) (ρ : Dev nD → PrngReg)

theorem kernel_recs (h : Cert.Pre_KernelIdeal_rows_are_means m) (c : Dev nD) : Gen.W6 m ρ c (Proc.devRef .tc main_v0_1)
    = recs (arg m c main_arg0) (arg m c main_arg2) (arg m c main_arg4) (arg m c main_arg5) := by
  obtain ⟨h0, h1, h2, h3, h4⟩ := h c
  rw [out_recs, Decode.arr, V4_v4_4, V4_v4_1, V4_arg5]
  funext y
  idx_vars y
  refine Eq.trans ?_ (recs_at _ _ _ _ y0 y1 y2).symm
  exact recs_eq _ _ _ _ _ (Pre_rows_are_means.mean_of _ _ _ _ _ _ _ _ h0) (Pre_rows_are_means.real_adj _ _ _ _ _ _ _ _ h1)
    (Pre_rows_are_means.real_feat _ _ _ _ _ _ _ _ h2) (Pre_rows_are_means.real_enc _ _ _ _ _ _ _ _ h3)
    (Pre_rows_are_means.real_dec _ _ _ _ _ _ _ _ h4) y0 y1 y2

end Kernel

/-! ### The claim under the precondition -/

theorem algebraic_pre : Cert.algebraic_KernelIdeal_ReferenceIdeal_pre_rows_are_means := by
  intro m g m' g' hpre hagree
  refine ⟨fun c => embs (m ((c.tc : Thread _ _).loc Cert.KernelIdeal.main_arg0)) (m ((c.tc : Thread _ _).loc Cert.KernelIdeal.main_arg2))
      (m ((c.tc : Thread _ _).loc Cert.KernelIdeal.main_arg4)),
    fun c => recs (m ((c.tc : Thread _ _).loc Cert.KernelIdeal.main_arg0)) (m ((c.tc : Thread _ _).loc Cert.KernelIdeal.main_arg2))
      (m ((c.tc : Thread _ _).loc Cert.KernelIdeal.main_arg4)) (m ((c.tc : Thread _ _).loc Cert.KernelIdeal.main_arg5)),
    fun c => pos (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg6))
      (m ((c.tc : Thread _ _).loc Cert.KernelIdeal.main_arg7)),
    fun c => neg (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg6))
      (m ((c.tc : Thread _ _).loc Cert.KernelIdeal.main_arg7)), ?_, ?_⟩
  · exact (θ_run Cert.KernelIdeal.defs _ _).mono
      (fun _ h c => ⟨(h c).1, (h c).2.1.trans (kernel_recs m g hpre c), (h c).2.2⟩) (kernel_run m g)
  · refine (θ_run Cert.ReferenceIdeal.defs _ _).mono (fun _ h c => ?_) (reference_run m' g')
    have h := h c
    obtain ⟨e0, e1, e2, e3, e4, e5, e6, e7⟩ := hagree c
    refine ⟨?_, ?_, ?_, ?_, h.2.2.2.2⟩
    · exact h.1.trans (by rw [e0, e2, e4])
    · exact h.2.1.trans (by rw [e0, e2, e4, e5])
    · exact h.2.2.1.trans (by rw [e0, e1, e2, e3, e4, e6, e7])
    · exact h.2.2.2.1.trans (by rw [e0, e1, e2, e3, e4, e6, e7])

end Cert.Matching

end
-- ==== Proof.lean ====
/- The certificate of the two-layer graph encoder kernel: its programs run, end with their arguments unchanged and
   every counter at zero, the idealized kernel preserves the printed one, and it computes what the idealized reference
   does: the scores and bilinear scores from any arguments, every result where the adjacency matrix holds means. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_all_but_recs
public import proofs.«01_k».proof.Proof.Matching
public import proofs.«01_k».proof.Proof.Reconstructions

public import Idealize.ShloMosaic.Adequacy
public import Idealize.ShloMosaic.Init

@[expose] public section

noncomputable section

namespace Cert.Proof

open Idealize.ShloMosaic Idealize.SL.Sem Cert.Kernel

/-- The printed kernel runs and leaves its arguments as they were. -/
theorem frame_kernel : Cert.quiescent_Kernel (hKernel := Cert.Kernel.Gen.facts) :=
  fun m ρ _ => Cert.Kernel.Gen.frame m ρ

/-- The idealized kernel runs and leaves its arguments as they were. -/
theorem frame_ideal : Cert.quiescent_KernelIdeal (hKernelIdeal := Cert.KernelIdeal.Gen.facts) :=
  fun m ρ _ => Cert.KernelIdeal.Gen.frame m ρ

/-- The idealized reference runs and leaves its arguments as they were: it declares no counter. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_rows_are_means.holds, Cert.On_all_but_recs.Gen.facts,
  frame_kernel, frame_ideal, fun m ρ _ => frame_ideal m ρ trivial, frame_reference, fun m ρ _ => frame_reference m ρ trivial,
  trivial, Cert.Matching.algebraic_pre, Cert.Matching.algebraic_on⟩

end Cert.Proof

end
